-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S32x12x768 : Shape := ⟨3, ![32, 12, 768]⟩
abbrev S12x768 : Shape := ⟨2, ![12, 768]⟩
abbrev S12x6144x768 : Shape := ⟨3, ![12, 6144, 768]⟩
abbrev S12x6144 : Shape := ⟨2, ![12, 6144]⟩
abbrev S12x768x6144 : Shape := ⟨3, ![12, 768, 6144]⟩
abbrev S1x12x768 : Shape := ⟨3, ![1, 12, 768]⟩
abbrev S12x6144x32 : Shape := ⟨3, ![12, 6144, 32]⟩
abbrev S32x12x6144 : Shape := ⟨3, ![32, 12, 6144]⟩
abbrev S1x12x6144 : Shape := ⟨3, ![1, 12, 6144]⟩
abbrev S384x6144 : Shape := ⟨2, ![384, 6144]⟩
abbrev S384x33 : Shape := ⟨2, ![384, 33]⟩
abbrev S384x32 : Shape := ⟨2, ![384, 32]⟩
abbrev S_ : Shape := ⟨0, ![]⟩

class Facts : Prop where
  bcast_S12x768_S1x12x768_1_2 : S12x768.BroadcastsInDim S1x12x768 (![1, 2] : Fin 2 → Fin S1x12x768.rank)
  bcast_S1x12x768_S32x12x768_0_1_2 : S1x12x768.BroadcastsInDim S32x12x768 (![0, 1, 2] : Fin 3 → Fin S32x12x768.rank)
  transposes_S12x6144x32_S32x12x6144_2_0_1 : S12x6144x32.Transposes [2, 0, 1] S32x12x6144
  bcast_S12x6144_S1x12x6144_1_2 : S12x6144.BroadcastsInDim S1x12x6144 (![1, 2] : Fin 2 → Fin S1x12x6144.rank)
  bcast_S1x12x6144_S32x12x6144_0_1_2 : S1x12x6144.BroadcastsInDim S32x12x6144 (![0, 1, 2] : Fin 3 → Fin S32x12x6144.rank)
  shapeCasts_S32x12x6144_S384x6144 : S32x12x6144.ShapeCasts S384x6144
  sliceFits_S384x6144_S384x33 : S384x6144.Slices (fun _ => 0) S384x33
  slices_S384x33_S384x32_0_0 : S384x33.Slices ![0, 0] S384x32
  slices_S384x33_S384x32_0_1 : S384x33.Slices ![0, 1] S384x32
  bcast_S_S384x32 : S_.BroadcastsInDim S384x32 (![] : Fin 0 → Fin S384x32.rank)
  dot_S12x6144x768_S32x12x768_S12x6144x32_2_2_1_0_0_1_wf : DotDims.WF S12x6144x768 S32x12x768 S12x6144x32 [2] [2] [1] [0] [0] [1]

variable [Facts]

def dot_S12x6144x768_S32x12x768_S12x6144x32_2_2_1_0_0_1 : DotDims S12x6144x768 S32x12x768 S12x6144x32 where
  lhsContracting := [2]
  rhsContracting := [2]
  lhsNonContracting := [1]
  rhsNonContracting := [0]
  lhsBatch := [0]
  rhsBatch := [1]
  wf := dot_S12x6144x768_S32x12x768_S12x6144x32_2_2_1_0_0_1_wf
def fn {F : FTy → Type} [FloatOps F] (main_arg0 : FVec F S32x12x768 .f32) (main_arg1 : FVec F S12x768 .f32) (main_arg2 : FVec F S12x6144x768 .f32) (main_arg3 : FVec F S12x6144 .f32) (main_arg4 : FVec F S12x768x6144 .f32) : IVec S384x32 1 :=
  let main_v0 : FVec F S1x12x768 .f32 := broadcastInDim S1x12x768 ![1, 2] bcast_S12x768_S1x12x768_1_2 main_arg1
  let main_v1 : FVec F S32x12x768 .f32 := broadcastInDim S32x12x768 ![0, 1, 2] bcast_S1x12x768_S32x12x768_0_1_2 main_v0
  let main_v2 : FVec F S32x12x768 .f32 := subf main_arg0 main_v1
  let main_v3 : FVec F S12x6144x32 .f32 := (fun l r => Host.dotGeneral dot_S12x6144x768_S32x12x768_S12x6144x32_2_2_1_0_0_1 none l r) main_arg2 main_v2
  let main_v4 : FVec F S32x12x6144 .f32 := (transpose S32x12x6144 [2, 0, 1] · transposes_S12x6144x32_S32x12x6144_2_0_1) main_v3
  let main_v5 : FVec F S1x12x6144 .f32 := broadcastInDim S1x12x6144 ![1, 2] bcast_S12x6144_S1x12x6144_1_2 main_arg3
  let main_v6 : FVec F S32x12x6144 .f32 := broadcastInDim S32x12x6144 ![0, 1, 2] bcast_S1x12x6144_S32x12x6144_0_1_2 main_v5
  let main_v7 : FVec F S32x12x6144 .f32 := addf main_v4 main_v6
  let main_v8 : FVec F S384x6144 .f32 := shapeCast S384x6144 main_v7 shapeCasts_S32x12x6144_S384x6144
  let main_values : FVec F S384x33 .f32 := (fun x => (Host.topK S384x33 1 (FloatOps.cmpfTotal .gt) x sliceFits_S384x6144_S384x33).1) main_v8
  let main_indices : IVec S384x33 32 := (fun x => (Host.topK S384x33 1 (FloatOps.cmpfTotal .gt) x sliceFits_S384x6144_S384x33).2) main_v8
  let main_v9 : FVec F S384x32 .f32 := (extractStridedSlice S384x32 ![0, 0] · slices_S384x33_S384x32_0_0) main_values
  let main_v10 : FVec F S384x32 .f32 := (extractStridedSlice S384x32 ![0, 1] · slices_S384x33_S384x32_0_1) main_values
  let main_v11 : IVec S384x32 1 := cmpf .ogt main_v9 main_v10
  let main_v12 : FVec F S384x32 .f32 := (extractStridedSlice S384x32 ![0, 0] · slices_S384x33_S384x32_0_0) main_values
  let main_cst : FVec F S_ .f32 := constant S_ .f32 0x00000000#32
  let main_v13 : FVec F S384x32 .f32 := broadcastInDim S384x32 ![] bcast_S_S384x32 main_cst
  let main_v14 : IVec S384x32 1 := cmpf .ole main_v12 main_v13
  let main_v15 : IVec S384x32 1 := ori main_v11 main_v14
  main_v15
-- ==== Kernel.lean ====
abbrev S32x12x768 : Shape := ⟨3, ![32, 12, 768]⟩
abbrev S12x768 : Shape := ⟨2, ![12, 768]⟩
abbrev S12x6144x768 : Shape := ⟨3, ![12, 6144, 768]⟩
abbrev S12x6144 : Shape := ⟨2, ![12, 6144]⟩
abbrev S12x768x6144 : Shape := ⟨3, ![12, 768, 6144]⟩
abbrev S12x32x768 : Shape := ⟨3, ![12, 32, 768]⟩
abbrev S12x1x768 : Shape := ⟨3, ![12, 1, 768]⟩
abbrev S12x1x6144 : Shape := ⟨3, ![12, 1, 6144]⟩
abbrev S12x32x6144 : Shape := ⟨3, ![12, 32, 6144]⟩
abbrev S12x1x1 : Shape := ⟨3, ![12, 1, 1]⟩
abbrev S_ : Shape := ⟨0, ![]⟩
abbrev S32x12x6144 : Shape := ⟨3, ![32, 12, 6144]⟩
abbrev S1x192x6144 : Shape := ⟨3, ![1, 192, 6144]⟩
abbrev S1x32x1536 : Shape := ⟨3, ![1, 32, 1536]⟩
abbrev S1x32x768 : Shape := ⟨3, ![1, 32, 768]⟩
abbrev S1x1x1 : Shape := ⟨3, ![1, 1, 1]⟩
abbrev S2x32x6144 : Shape := ⟨3, ![2, 32, 6144]⟩
abbrev S2x32x128 : Shape := ⟨3, ![2, 32, 128]⟩
abbrev S3x32x192 : Shape := ⟨3, ![3, 32, 192]⟩
abbrev S2x6144x768 : Shape := ⟨3, ![2, 6144, 768]⟩
abbrev S2x4 : Shape := ⟨2, ![2, 4]⟩
abbrev S1x1 : Shape := ⟨2, ![1, 1]⟩
abbrev S1x1536x768 : Shape := ⟨3, ![1, 1536, 768]⟩
abbrev S1536x768 : Shape := ⟨2, ![1536, 768]⟩
abbrev S32x768 : Shape := ⟨2, ![32, 768]⟩
abbrev S1x1x768 : Shape := ⟨3, ![1, 1, 768]⟩
abbrev S1x768 : Shape := ⟨2, ![1, 768]⟩
abbrev S1x6144x768 : Shape := ⟨3, ![1, 6144, 768]⟩
abbrev S6144x768 : Shape := ⟨2, ![6144, 768]⟩
abbrev S32x6144 : Shape := ⟨2, ![32, 6144]⟩
abbrev S1x1x6144 : Shape := ⟨3, ![1, 1, 6144]⟩
abbrev S1x6144 : Shape := ⟨2, ![1, 6144]⟩
abbrev S1x32x6144 : Shape := ⟨3, ![1, 32, 6144]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩
abbrev S1x32x1 : Shape := ⟨3, ![1, 32, 1]⟩
abbrev S1x32 : Shape := ⟨2, ![1, 32]⟩
abbrev S1 : Shape := ⟨1, ![1]⟩
abbrev S32x1536 : Shape := ⟨2, ![32, 1536]⟩
abbrev S192x6144 : Shape := ⟨2, ![192, 6144]⟩
abbrev S32x192 : Shape := ⟨2, ![32, 192]⟩
abbrev S1x32x192 : Shape := ⟨3, ![1, 32, 192]⟩

abbrev nBuf : Space → Nat
  | .hbm => 17
  | .vmem => 14
  | .smem => 2
  | _ => 0

abbrev bufTy : (tb : Table) → Fin (tcTables nBuf tb) → BufTy
  | .hbm, ⟨0, _⟩ => ⟨S32x12x768, .f32⟩
  | .hbm, ⟨1, _⟩ => ⟨S12x768, .f32⟩
  | .hbm, ⟨2, _⟩ => ⟨S12x6144x768, .f32⟩
  | .hbm, ⟨3, _⟩ => ⟨S12x6144, .f32⟩
  | .hbm, ⟨4, _⟩ => ⟨S12x768x6144, .f32⟩
  | .hbm, ⟨5, _⟩ => ⟨S12x32x768, .f32⟩
  | .hbm, ⟨6, _⟩ => ⟨S12x1x768, .f32⟩
  | .hbm, ⟨7, _⟩ => ⟨S12x1x6144, .f32⟩
  | .hbm, ⟨8, _⟩ => ⟨S12x32x6144, .f32⟩
  | .hbm, ⟨9, _⟩ => ⟨S12x32x768, .f32⟩
  | .hbm, ⟨10, _⟩ => ⟨S12x1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32x12x768, .f32⟩
  | .hbm, ⟨16, _⟩ => ⟨S32x12x6144, .f32⟩
  | .local _ .vmem, ⟨0, _⟩ => ⟨S12x32x768, .f32⟩
  | .local _ .vmem, ⟨1, _⟩ => ⟨S12x1x768, .f32⟩
  | .local _ .vmem, ⟨2, _⟩ => ⟨S12x1x6144, .f32⟩
  | .local _ .vmem, ⟨3, _⟩ => ⟨S1x192x6144, .f32⟩
  | .local _ .vmem, ⟨4, _⟩ => ⟨S1x192x6144, .f32⟩
  | .local _ .vmem, ⟨5, _⟩ => ⟨S1x32x1536, .f32⟩
  | .local _ .vmem, ⟨6, _⟩ => ⟨S1x32x1536, .f32⟩
  | .local _ .vmem, ⟨7, _⟩ => ⟨S1x32x768, .f32⟩
  | .local _ .vmem, ⟨8, _⟩ => ⟨S1x32x768, .f32⟩
  | .local _ .vmem, ⟨9, _⟩ => ⟨S2x32x6144, .f32⟩
  | .local _ .vmem, ⟨10, _⟩ => ⟨S2x32x128, .f32⟩
  | .local _ .vmem, ⟨11, _⟩ => ⟨S3x32x192, .f32⟩
  | .local _ .vmem, ⟨12, _⟩ => ⟨S2x32x6144, .f32⟩
  | .local _ .vmem, ⟨13, _⟩ => ⟨S2x6144x768, .f32⟩
  | .local _ .smem, ⟨0, _⟩ => ⟨S1x1x1, .f32⟩
  | .local _ .smem, ⟨1, _⟩ => ⟨S1x1x1, .f32⟩
  | _, _ => ⟨S32x12x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3_0 : Ref sig .tc := ⟨.hbm, 8, rfl⟩
abbrev main_call0_v3_1 : Ref sig .tc := ⟨.hbm, 9, rfl⟩
abbrev main_call0_v3_2 : Ref sig .tc := ⟨.hbm, 10, rfl⟩
abbrev main_call0_cst : Ref sig .tc := ⟨.hbm, 11, rfl⟩
abbrev main_call0_v4 : Ref sig .tc := ⟨.hbm, 12, rfl⟩
abbrev main_call0_cst_0 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_stg6_0 : Ref sig .tc := ⟨.smem, 0, rfl⟩
abbrev cc0_stg6_1 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![13, 4], ![false, false]⟩

def k0_cond1 (i : grid0.Coords) : BitVec 1 :=
  let arg0 : BitVec 32 := BitVec.ofNat 32 (i 0).val
  let c0_i32_2 : BitVec 32 := 0#32
  let v6 : BitVec 1 := Scalar.cmpi .eq arg0 c0_i32_2
  let arg1 : BitVec 32 := BitVec.ofNat 32 (i 1).val
  let c0_i32_3 : BitVec 32 := 0#32
  let v7 : BitVec 1 := Scalar.cmpi .eq arg1 c0_i32_3
  let v8 : BitVec 1 := Scalar.andi v6 v7
  let v9 : BitVec 32 := Scalar.extui v8
  let c0_i32_4 : BitVec 32 := 0#32
  let v10 : BitVec 1 := Scalar.cmpi .ne v9 c0_i32_4
  v10

def k0_off1 : Fin 2 → Nat :=
  let c0_i32_19 : BitVec 32 := 0#32
  let c2_i32_20 : BitVec 32 := 2#32
  let v37 : BitVec 32 := Scalar.remsi c0_i32_19 c2_i32_20
  let c0_i32_22 : BitVec 32 := 0#32
  ![v37.toNat, 0]
def k0_off2 : Fin 3 → Nat :=
  let c0_i32_19 : BitVec 32 := 0#32
  let c2_i32_20 : BitVec 32 := 2#32
  let v37 : BitVec 32 := Scalar.remsi c0_i32_19 c2_i32_20
  let c0_i32_23 : BitVec 32 := 0#32
  let c0_i32_24 : BitVec 32 := 0#32
  ![v37.toNat, 0, 0]
def k0_off3 : Fin 2 → Nat :=
  let c0_i32_27 : BitVec 32 := 0#32
  let c2_i32_28 : BitVec 32 := 2#32
  let v44 : BitVec 32 := Scalar.remsi c0_i32_27 c2_i32_28
  let c1_i32_30 : BitVec 32 := 1#32
  ![v44.toNat, 1]
def k0_off4 : Fin 3 → Nat :=
  let c0_i32_27 : BitVec 32 := 0#32
  let c2_i32_28 : BitVec 32 := 2#32
  let v44 : BitVec 32 := Scalar.remsi c0_i32_27 c2_i32_28
  let c1536_i32 : BitVec 32 := 1536#32
  let c0_i32_31 : BitVec 32 := 0#32
  ![v44.toNat, 1536, 0]
def k0_off5 : Fin 2 → Nat :=
  let c0_i32_34 : BitVec 32 := 0#32
  let c2_i32_35 : BitVec 32 := 2#32
  let v51 : BitVec 32 := Scalar.remsi c0_i32_34 c2_i32_35
  let c2_i32_37 : BitVec 32 := 2#32
  ![v51.toNat, 2]
def k0_off6 : Fin 3 → Nat :=
  let c0_i32_34 : BitVec 32 := 0#32
  let c2_i32_35 : BitVec 32 := 2#32
  let v51 : BitVec 32 := Scalar.remsi c0_i32_34 c2_i32_35
  let c3072_i32 : BitVec 32 := 3072#32
  let c0_i32_38 : BitVec 32 := 0#32
  ![v51.toNat, 3072, 0]
def k0_off7 : Fin 2 → Nat :=
  let c0_i32_41 : BitVec 32 := 0#32
  let c2_i32_42 : BitVec 32 := 2#32
  let v58 : BitVec 32 := Scalar.remsi c0_i32_41 c2_i32_42
  let c3_i32_44 : BitVec 32 := 3#32
  ![v58.toNat, 3]
def k0_off8 : Fin 3 → Nat :=
  let c0_i32_41 : BitVec 32 := 0#32
  let c2_i32_42 : BitVec 32 := 2#32
  let v58 : BitVec 32 := Scalar.remsi c0_i32_41 c2_i32_42
  let c4608_i32 : BitVec 32 := 4608#32
  let c0_i32_45 : BitVec 32 := 0#32
  ![v58.toNat, 4608, 0]
def k0_cond2 (i : grid0.Coords) : BitVec 1 :=
  let arg0 : BitVec 32 := BitVec.ofNat 32 (i 0).val
  let c11_i32_5 : BitVec 32 := 11#32
  let v11 : BitVec 1 := Scalar.cmpi .slt arg0 c11_i32_5
  let v12 : BitVec 32 := Scalar.extui v11
  let c0_i32_6 : BitVec 32 := 0#32
  let v13 : BitVec 1 := Scalar.cmpi .ne v12 c0_i32_6
  v13

def k0_cond3 (i : grid0.Coords) : BitVec 1 :=
  let arg1 : BitVec 32 := BitVec.ofNat 32 (i 1).val
  let c0_i32_19 : BitVec 32 := 0#32
  let v37 : BitVec 1 := Scalar.cmpi .eq arg1 c0_i32_19
  let v38 : BitVec 32 := Scalar.extui v37
  let c0_i32_20 : BitVec 32 := 0#32
  let v39 : BitVec 1 := Scalar.cmpi .ne v38 c0_i32_20
  v39

def k0_off9 (i : grid0.Coords) : Fin 2 → Nat :=
  let arg0 : BitVec 32 := BitVec.ofNat 32 (i 0).val
  let c1_i32_27 : BitVec 32 := 1#32
  let v49 : BitVec 32 := Scalar.addi arg0 c1_i32_27
  let c2_i32_28 : BitVec 32 := 2#32
  let v50 : BitVec 32 := Scalar.remsi v49 c2_i32_28
  let c0_i32_29 : BitVec 32 := 0#32
  ![v50.toNat, 0]
def k0_off10 (i : grid0.Coords) : Fin 3 → Nat :=
  let arg0 : BitVec 32 := BitVec.ofNat 32 (i 0).val
  let c1_i32_27 : BitVec 32 := 1#32
  let v49 : BitVec 32 := Scalar.addi arg0 c1_i32_27
  let c2_i32_28 : BitVec 32 := 2#32
  let v50 : BitVec 32 := Scalar.remsi v49 c2_i32_28
  let c0_i32_30 : BitVec 32 := 0#32
  let c0_i32_31 : BitVec 32 := 0#32
  ![v50.toNat, 0, 0]
def k0_off11 (i : grid0.Coords) : Fin 3 → Nat :=
  let arg0 : BitVec 32 := BitVec.ofNat 32 (i 0).val
  let c1_i32_27 : BitVec 32 := 1#32
  let v49 : BitVec 32 := Scalar.addi arg0 c1_i32_27
  let c0_i32_32 : BitVec 32 := 0#32
  let c0_i32_33 : BitVec 32 := 0#32
  ![v49.toNat, 0, 0]
def k0_cond4 (i : grid0.Coords) : BitVec 1 :=
  let arg1 : BitVec 32 := BitVec.ofNat 32 (i 1).val
  let c1_i32_21 : BitVec 32 := 1#32
  let v40 : BitVec 1 := Scalar.cmpi .eq arg1 c1_i32_21
  let v41 : BitVec 32 := Scalar.extui v40
  let c0_i32_22 : BitVec 32 := 0#32
  let v42 : BitVec 1 := Scalar.cmpi .ne v41 c0_i32_22
  v42

def k0_off12 (i : grid0.Coords) : Fin 2 → Nat :=
  let arg0 : BitVec 32 := BitVec.ofNat 32 (i 0).val
  let c1_i32_27 : BitVec 32 := 1#32
  let v49 : BitVec 32 := Scalar.addi arg0 c1_i32_27
  let c2_i32_28 : BitVec 32 := 2#32
  let v50 : BitVec 32 := Scalar.remsi v49 c2_i32_28
  let c1_i32_29 : BitVec 32 := 1#32
  ![v50.toNat, 1]
def k0_off13 (i : grid0.Coords) : Fin 3 → Nat :=
  let arg0 : BitVec 32 := BitVec.ofNat 32 (i 0).val
  let c1_i32_27 : BitVec 32 := 1#32
  let v49 : BitVec 32 := Scalar.addi arg0 c1_i32_27
  let c2_i32_28 : BitVec 32 := 2#32
  let v50 : BitVec 32 := Scalar.remsi v49 c2_i32_28
  let c1536_i32 : BitVec 32 := 1536#32
  let c0_i32_30 : BitVec 32 := 0#32
  ![v50.toNat, 1536, 0]
def k0_off14 (i : grid0.Coords) : Fin 3 → Nat :=
  let arg0 : BitVec 32 := BitVec.ofNat 32 (i 0).val
  let c1_i32_27 : BitVec 32 := 1#32
  let v49 : BitVec 32 := Scalar.addi arg0 c1_i32_27
  let c1536_i32_31 : BitVec 32 := 1536#32
  let c0_i32_32 : BitVec 32 := 0#32
  ![v49.toNat, 1536, 0]
def k0_cond5 (i : grid0.Coords) : BitVec 1 :=
  let arg1 : BitVec 32 := BitVec.ofNat 32 (i 1).val
  let c2_i32_23 : BitVec 32 := 2#32
  let v43 : BitVec 1 := Scalar.cmpi .eq arg1 c2_i32_23
  let v44 : BitVec 32 := Scalar.extui v43
  let c0_i32_24 : BitVec 32 := 0#32
  let v45 : BitVec 1 := Scalar.cmpi .ne v44 c0_i32_24
  v45

def k0_off15 (i : grid0.Coords) : Fin 2 → Nat :=
  let arg0 : BitVec 32 := BitVec.ofNat 32 (i 0).val
  let c1_i32_27 : BitVec 32 := 1#32
  let v49 : BitVec 32 := Scalar.addi arg0 c1_i32_27
  let c2_i32_28 : BitVec 32 := 2#32
  let v50 : BitVec 32 := Scalar.remsi v49 c2_i32_28
  let c2_i32_29 : BitVec 32 := 2#32
  ![v50.toNat, 2]
def k0_off16 (i : grid0.Coords) : Fin 3 → Nat :=
  let arg0 : BitVec 32 := BitVec.ofNat 32 (i 0).val
  let c1_i32_27 : BitVec 32 := 1#32
  let v49 : BitVec 32 := Scalar.addi arg0 c1_i32_27
  let c2_i32_28 : BitVec 32 := 2#32
  let v50 : BitVec 32 := Scalar.remsi v49 c2_i32_28
  let c3072_i32 : BitVec 32 := 3072#32
  let c0_i32_30 : BitVec 32 := 0#32
  ![v50.toNat, 3072, 0]
def k0_off17 (i : grid0.Coords) : Fin 3 → Nat :=
  let arg0 : BitVec 32 := BitVec.ofNat 32 (i 0).val
  let c1_i32_27 : BitVec 32 := 1#32
  let v49 : BitVec 32 := Scalar.addi arg0 c1_i32_27
  let c3072_i32_31 : BitVec 32 := 3072#32
  let c0_i32_32 : BitVec 32 := 0#32
  ![v49.toNat, 3072, 0]
def k0_cond6 (i : grid0.Coords) : BitVec 1 :=
  let arg1 : BitVec 32 := BitVec.ofNat 32 (i 1).val
  let c3_i32_25 : BitVec 32 := 3#32
  let v46 : BitVec 1 := Scalar.cmpi .eq arg1 c3_i32_25
  let v47 : BitVec 32 := Scalar.extui v46
  let c0_i32_26 : BitVec 32 := 0#32
  let v48 : BitVec 1 := Scalar.cmpi .ne v47 c0_i32_26
  v48

def k0_off18 (i : grid0.Coords) : Fin 2 → Nat :=
  let arg0 : BitVec 32 := BitVec.ofNat 32 (i 0).val
  let c1_i32_27 : BitVec 32 := 1#32
  let v49 : BitVec 32 := Scalar.addi arg0 c1_i32_27
  let c2_i32_28 : BitVec 32 := 2#32
  let v50 : BitVec 32 := Scalar.remsi v49 c2_i32_28
  let c3_i32_29 : BitVec 32 := 3#32
  ![v50.toNat, 3]
def k0_off19 (i : grid0.Coords) : Fin 3 → Nat :=
  let arg0 : BitVec 32 := BitVec.ofNat 32 (i 0).val
  let c1_i32_27 : BitVec 32 := 1#32
  let v49 : BitVec 32 := Scalar.addi arg0 c1_i32_27
  let c2_i32_28 : BitVec 32 := 2#32
  let v50 : BitVec 32 := Scalar.remsi v49 c2_i32_28
  let c4608_i32 : BitVec 32 := 4608#32
  let c0_i32_30 : BitVec 32 := 0#32
  ![v50.toNat, 4608, 0]
def k0_off20 (i : grid0.Coords) : Fin 3 → Nat :=
  let arg0 : BitVec 32 := BitVec.ofNat 32 (i 0).val
  let c1_i32_27 : BitVec 32 := 1#32
  let v49 : BitVec 32 := Scalar.addi arg0 c1_i32_27
  let c4608_i32_31 : BitVec 32 := 4608#32
  let c0_i32_32 : BitVec 32 := 0#32
  ![v49.toNat, 4608, 0]
def k0_cond7 (i : grid0.Coords) : BitVec 1 :=
  let arg0 : BitVec 32 := BitVec.ofNat 32 (i 0).val
  let c12_i32 : BitVec 32 := 12#32
  let v14 : BitVec 1 := Scalar.cmpi .slt arg0 c12_i32
  let arg1 : BitVec 32 := BitVec.ofNat 32 (i 1).val
  let c0_i32_7 : BitVec 32 := 0#32
  let v15 : BitVec 1 := Scalar.cmpi .eq arg1 c0_i32_7
  let v16 : BitVec 1 := Scalar.andi v14 v15
  let v17 : BitVec 32 := Scalar.extui v16
  let c0_i32_8 : BitVec 32 := 0#32
  let v18 : BitVec 1 := Scalar.cmpi .ne v17 c0_i32_8
  v18

def k0_off21 (i : grid0.Coords) : Fin 2 → Nat :=
  let arg0 : BitVec 32 := BitVec.ofNat 32 (i 0).val
  let c11_i32 : BitVec 32 := 11#32
  let v0 : BitVec 32 := Scalar.minsi arg0 c11_i32
  let c2_i32_19 : BitVec 32 := 2#32
  let v37 : BitVec 32 := Scalar.remsi v0 c2_i32_19
  let c0_i32_20 : BitVec 32 := 0#32
  ![v37.toNat, 0]
def k0_off22 (i : grid0.Coords) : Fin 3 → Nat :=
  let arg0 : BitVec 32 := BitVec.ofNat 32 (i 0).val
  let c11_i32 : BitVec 32 := 11#32
  let v0 : BitVec 32 := Scalar.minsi arg0 c11_i32
  let c2_i32_19 : BitVec 32 := 2#32
  let v37 : BitVec 32 := Scalar.remsi v0 c2_i32_19
  let c0_i32_21 : BitVec 32 := 0#32
  let c0_i32_22 : BitVec 32 := 0#32
  ![v37.toNat, 0, 0]
def k0_off23 (i : grid0.Coords) : Fin 3 → Nat :=
  let arg0 : BitVec 32 := BitVec.ofNat 32 (i 0).val
  let c11_i32 : BitVec 32 := 11#32
  let v0 : BitVec 32 := Scalar.minsi arg0 c11_i32
  let c0_i32_23 : BitVec 32 := 0#32
  let c0_i32_24 : BitVec 32 := 0#32
  ![v0.toNat, 0, 0]
def k0_off24 (i : grid0.Coords) : Fin 2 → Nat :=
  let arg0 : BitVec 32 := BitVec.ofNat 32 (i 0).val
  let c11_i32 : BitVec 32 := 11#32
  let v0 : BitVec 32 := Scalar.minsi arg0 c11_i32
  let c2_i32_25 : BitVec 32 := 2#32
  let v44 : BitVec 32 := Scalar.remsi v0 c2_i32_25
  let c1_i32_26 : BitVec 32 := 1#32
  ![v44.toNat, 1]
def k0_off25 (i : grid0.Coords) : Fin 3 → Nat :=
  let arg0 : BitVec 32 := BitVec.ofNat 32 (i 0).val
  let c11_i32 : BitVec 32 := 11#32
  let v0 : BitVec 32 := Scalar.minsi arg0 c11_i32
  let c2_i32_25 : BitVec 32 := 2#32
  let v44 : BitVec 32 := Scalar.remsi v0 c2_i32_25
  let c1536_i32 : BitVec 32 := 1536#32
  let c0_i32_27 : BitVec 32 := 0#32
  ![v44.toNat, 1536, 0]
def k0_off26 (i : grid0.Coords) : Fin 3 → Nat :=
  let arg0 : BitVec 32 := BitVec.ofNat 32 (i 0).val
  let c11_i32 : BitVec 32 := 11#32
  let v0 : BitVec 32 := Scalar.minsi arg0 c11_i32
  let c1536_i32_28 : BitVec 32 := 1536#32
  let c0_i32_29 : BitVec 32 := 0#32
  ![v0.toNat, 1536, 0]
def k0_off27 (i : grid0.Coords) : Fin 2 → Nat :=
  let arg0 : BitVec 32 := BitVec.ofNat 32 (i 0).val
  let c11_i32 : BitVec 32 := 11#32
  let v0 : BitVec 32 := Scalar.minsi arg0 c11_i32
  let c2_i32_30 : BitVec 32 := 2#32
  let v51 : BitVec 32 := Scalar.remsi v0 c2_i32_30
  let c2_i32_31 : BitVec 32 := 2#32
  ![v51.toNat, 2]
def k0_off28 (i : grid0.Coords) : Fin 3 → Nat :=
  let arg0 : BitVec 32 := BitVec.ofNat 32 (i 0).val
  let c11_i32 : BitVec 32 := 11#32
  let v0 : BitVec 32 := Scalar.minsi arg0 c11_i32
  let c2_i32_30 : BitVec 32 := 2#32
  let v51 : BitVec 32 := Scalar.remsi v0 c2_i32_30
  let c3072_i32 : BitVec 32 := 3072#32
  let c0_i32_32 : BitVec 32 := 0#32
  ![v51.toNat, 3072, 0]
def k0_off29 (i : grid0.Coords) : Fin 3 → Nat :=
  let arg0 : BitVec 32 := BitVec.ofNat 32 (i 0).val
  let c11_i32 : BitVec 32 := 11#32
  let v0 : BitVec 32 := Scalar.minsi arg0 c11_i32
  let c3072_i32_33 : BitVec 32 := 3072#32
  let c0_i32_34 : BitVec 32 := 0#32
  ![v0.toNat, 3072, 0]
def k0_off30 (i : grid0.Coords) : Fin 2 → Nat :=
  let arg0 : BitVec 32 := BitVec.ofNat 32 (i 0).val
  let c11_i32 : BitVec 32 := 11#32
  let v0 : BitVec 32 := Scalar.minsi arg0 c11_i32
  let c2_i32_35 : BitVec 32 := 2#32
  let v58 : BitVec 32 := Scalar.remsi v0 c2_i32_35
  let c3_i32_36 : BitVec 32 := 3#32
  ![v58.toNat, 3]
def k0_off31 (i : grid0.Coords) : Fin 3 → Nat :=
  let arg0 : BitVec 32 := BitVec.ofNat 32 (i 0).val
  let c11_i32 : BitVec 32 := 11#32
  let v0 : BitVec 32 := Scalar.minsi arg0 c11_i32
  let c2_i32_35 : BitVec 32 := 2#32
  let v58 : BitVec 32 := Scalar.remsi v0 c2_i32_35
  let c4608_i32 : BitVec 32 := 4608#32
  let c0_i32_37 : BitVec 32 := 0#32
  ![v58.toNat, 4608, 0]
def k0_off32 (i : grid0.Coords) : Fin 3 → Nat :=
  let arg0 : BitVec 32 := BitVec.ofNat 32 (i 0).val
  let c11_i32 : BitVec 32 := 11#32
  let v0 : BitVec 32 := Scalar.minsi arg0 c11_i32
  let c4608_i32_38 : BitVec 32 := 4608#32
  let c0_i32_39 : BitVec 32 := 0#32
  ![v0.toNat, 4608, 0]
def k0_off33 (i : grid0.Coords) : Fin 3 → Nat :=
  let arg0 : BitVec 32 := BitVec.ofNat 32 (i 0).val
  let c11_i32 : BitVec 32 := 11#32
  let v0 : BitVec 32 := Scalar.minsi arg0 c11_i32
  let v65 : Index := Scalar.indexCast v0
  let c0 : Index := 0#32
  let c0_40 : Index := 0#32
  ![v65.toNat, 0, 0]
def k0_off34 (i : grid0.Coords) : Fin 3 → Nat :=
  let arg0 : BitVec 32 := BitVec.ofNat 32 (i 0).val
  let c11_i32 : BitVec 32 := 11#32
  let v0 : BitVec 32 := Scalar.minsi arg0 c11_i32
  let v68 : Index := Scalar.indexCast v0
  let c0_41 : Index := 0#32
  let c0_42 : Index := 0#32
  ![v68.toNat, 0, 0]
def k0_off35 (i : grid0.Coords) : Fin 3 → Nat :=
  let arg0 : BitVec 32 := BitVec.ofNat 32 (i 0).val
  let c2_i32 : BitVec 32 := 2#32
  let v3 : BitVec 32 := Scalar.remsi arg0 c2_i32
  let v73 : Index := Scalar.indexCast v3
  let c0_43 : Index := 0#32
  let c0_44 : Index := 0#32
  ![v73.toNat, 0, 0]
def k0_off36 (i : grid0.Coords) : Fin 3 → Nat :=
  let arg0 : BitVec 32 := BitVec.ofNat 32 (i 0).val
  let c11_i32 : BitVec 32 := 11#32
  let v0 : BitVec 32 := Scalar.minsi arg0 c11_i32
  let v77 : Index := Scalar.indexCast v0
  let c0_45 : Index := 0#32
  let c0_46 : Index := 0#32
  ![v77.toNat, 0, 0]
def k0_off37 (i : grid0.Coords) : Fin 3 → Nat :=
  let arg0 : BitVec 32 := BitVec.ofNat 32 (i 0).val
  let c2_i32 : BitVec 32 := 2#32
  let v3 : BitVec 32 := Scalar.remsi arg0 c2_i32
  let v82 : Index := Scalar.indexCast v3
  let c0_47 : Index := 0#32
  let c0_48 : Index := 0#32
  ![v82.toNat, 0, 0]
def k0_cond8 (i : grid0.Coords) : BitVec 1 :=
  let arg0 : BitVec 32 := BitVec.ofNat 32 (i 0).val
  let c12_i32_9 : BitVec 32 := 12#32
  let v19 : BitVec 1 := Scalar.cmpi .slt arg0 c12_i32_9
  let arg1 : BitVec 32 := BitVec.ofNat 32 (i 1).val
  let c1_i32_10 : BitVec 32 := 1#32
  let v20 : BitVec 1 := Scalar.cmpi .eq arg1 c1_i32_10
  let v21 : BitVec 1 := Scalar.andi v19 v20
  let v22 : BitVec 32 := Scalar.extui v21
  let c0_i32_11 : BitVec 32 := 0#32
  let v23 : BitVec 1 := Scalar.cmpi .ne v22 c0_i32_11
  v23

def k0_off38 (i : grid0.Coords) : Fin 3 → Nat :=
  let arg0 : BitVec 32 := BitVec.ofNat 32 (i 0).val
  let c2_i32 : BitVec 32 := 2#32
  let v3 : BitVec 32 := Scalar.remsi arg0 c2_i32
  let v38 : Index := Scalar.indexCast v3
  let c0 : Index := 0#32
  let c0_19 : Index := 0#32
  ![v38.toNat, 0, 0]
def k0_off39 (i : grid0.Coords) : Fin 3 → Nat :=
  let arg0 : BitVec 32 := BitVec.ofNat 32 (i 0).val
  let c2_i32 : BitVec 32 := 2#32
  let v3 : BitVec 32 := Scalar.remsi arg0 c2_i32
  let v52 : Index := Scalar.indexCast v3
  let c0_20 : Index := 0#32
  let c3072 : Index := 3072#32
  ![v52.toNat, 0, 3072]
def k0_off40 (i : grid0.Coords) : Fin 3 → Nat :=
  let arg0 : BitVec 32 := BitVec.ofNat 32 (i 0).val
  let c2_i32 : BitVec 32 := 2#32
  let v3 : BitVec 32 := Scalar.remsi arg0 c2_i32
  let v66 : Index := Scalar.indexCast v3
  let c0_21 : Index := 0#32
  let c128 : Index := 128#32
  ![v66.toNat, 0, 128]
def k0_off41 (i : grid0.Coords) : Fin 3 → Nat :=
  let arg0 : BitVec 32 := BitVec.ofNat 32 (i 0).val
  let c2_i32 : BitVec 32 := 2#32
  let v3 : BitVec 32 := Scalar.remsi arg0 c2_i32
  let v80 : Index := Scalar.indexCast v3
  let c0_22 : Index := 0#32
  let c3200 : Index := 3200#32
  ![v80.toNat, 0, 3200]
def k0_off42 (i : grid0.Coords) : Fin 3 → Nat :=
  let arg0 : BitVec 32 := BitVec.ofNat 32 (i 0).val
  let c2_i32 : BitVec 32 := 2#32
  let v3 : BitVec 32 := Scalar.remsi arg0 c2_i32
  let v94 : Index := Scalar.indexCast v3
  let c0_23 : Index := 0#32
  let c256 : Index := 256#32
  ![v94.toNat, 0, 256]
def k0_off43 (i : grid0.Coords) : Fin 3 → Nat :=
  let arg0 : BitVec 32 := BitVec.ofNat 32 (i 0).val
  let c2_i32 : BitVec 32 := 2#32
  let v3 : BitVec 32 := Scalar.remsi arg0 c2_i32
  let v108 : Index := Scalar.indexCast v3
  let c0_24 : Index := 0#32
  let c3328 : Index := 3328#32
  ![v108.toNat, 0, 3328]
def k0_off44 (i : grid0.Coords) : Fin 3 → Nat :=
  let arg0 : BitVec 32 := BitVec.ofNat 32 (i 0).val
  let c2_i32 : BitVec 32 := 2#32
  let v3 : BitVec 32 := Scalar.remsi arg0 c2_i32
  let v122 : Index := Scalar.indexCast v3
  let c0_25 : Index := 0#32
  let c384 : Index := 384#32
  ![v122.toNat, 0, 384]
def k0_off45 (i : grid0.Coords) : Fin 3 → Nat :=
  let arg0 : BitVec 32 := BitVec.ofNat 32 (i 0).val
  let c2_i32 : BitVec 32 := 2#32
  let v3 : BitVec 32 := Scalar.remsi arg0 c2_i32
  let v136 : Index := Scalar.indexCast v3
  let c0_26 : Index := 0#32
  let c3456 : Index := 3456#32
  ![v136.toNat, 0, 3456]
def k0_off46 (i : grid0.Coords) : Fin 3 → Nat :=
  let arg0 : BitVec 32 := BitVec.ofNat 32 (i 0).val
  let c2_i32 : BitVec 32 := 2#32
  let v3 : BitVec 32 := Scalar.remsi arg0 c2_i32
  let v150 : Index := Scalar.indexCast v3
  let c0_27 : Index := 0#32
  let c512 : Index := 512#32
  ![v150.toNat, 0, 512]
def k0_off47 (i : grid0.Coords) : Fin 3 → Nat :=
  let arg0 : BitVec 32 := BitVec.ofNat 32 (i 0).val
  let c2_i32 : BitVec 32 := 2#32
  let v3 : BitVec 32 := Scalar.remsi arg0 c2_i32
  let v164 : Index := Scalar.indexCast v3
  let c0_28 : Index := 0#32
  let c3584 : Index := 3584#32
  ![v164.toNat, 0, 3584]
def k0_off48 (i : grid0.Coords) : Fin 3 → Nat :=
  let arg0 : BitVec 32 := BitVec.ofNat 32 (i 0).val
  let c2_i32 : BitVec 32 := 2#32
  let v3 : BitVec 32 := Scalar.remsi arg0 c2_i32
  let v178 : Index := Scalar.indexCast v3
  let c0_29 : Index := 0#32
  let c640 : Index := 640#32
  ![v178.toNat, 0, 640]
def k0_off49 (i : grid0.Coords) : Fin 3 → Nat :=
  let arg0 : BitVec 32 := BitVec.ofNat 32 (i 0).val
  let c2_i32 : BitVec 32 := 2#32
  let v3 : BitVec 32 := Scalar.remsi arg0 c2_i32
  let v192 : Index := Scalar.indexCast v3
  let c0_30 : Index := 0#32
  let c3712 : Index := 3712#32
  ![v192.toNat, 0, 3712]
def k0_off50 (i : grid0.Coords) : Fin 3 → Nat :=
  let arg0 : BitVec 32 := BitVec.ofNat 32 (i 0).val
  let c2_i32 : BitVec 32 := 2#32
  let v3 : BitVec 32 := Scalar.remsi arg0 c2_i32
  let v206 : Index := Scalar.indexCast v3
  let c0_31 : Index := 0#32
  let c768 : Index := 768#32
  ![v206.toNat, 0, 768]
def k0_off51 (i : grid0.Coords) : Fin 3 → Nat :=
  let arg0 : BitVec 32 := BitVec.ofNat 32 (i 0).val
  let c2_i32 : BitVec 32 := 2#32
  let v3 : BitVec 32 := Scalar.remsi arg0 c2_i32
  let v220 : Index := Scalar.indexCast v3
  let c0_32 : Index := 0#32
  let c3840 : Index := 3840#32
  ![v220.toNat, 0, 3840]
def k0_off52 (i : grid0.Coords) : Fin 3 → Nat :=
  let arg0 : BitVec 32 := BitVec.ofNat 32 (i 0).val
  let c2_i32 : BitVec 32 := 2#32
  let v3 : BitVec 32 := Scalar.remsi arg0 c2_i32
  let v234 : Index := Scalar.indexCast v3
  let c0_33 : Index := 0#32
  let c896 : Index := 896#32
  ![v234.toNat, 0, 896]
def k0_off53 (i : grid0.Coords) : Fin 3 → Nat :=
  let arg0 : BitVec 32 := BitVec.ofNat 32 (i 0).val
  let c2_i32 : BitVec 32 := 2#32
  let v3 : BitVec 32 := Scalar.remsi arg0 c2_i32
  let v248 : Index := Scalar.indexCast v3
  let c0_34 : Index := 0#32
  let c3968 : Index := 3968#32
  ![v248.toNat, 0, 3968]
def k0_off54 (i : grid0.Coords) : Fin 3 → Nat :=
  let arg0 : BitVec 32 := BitVec.ofNat 32 (i 0).val
  let c2_i32 : BitVec 32 := 2#32
  let v3 : BitVec 32 := Scalar.remsi arg0 c2_i32
  let v262 : Index := Scalar.indexCast v3
  let c0_35 : Index := 0#32
  let c1024 : Index := 1024#32
  ![v262.toNat, 0, 1024]
def k0_off55 (i : grid0.Coords) : Fin 3 → Nat :=
  let arg0 : BitVec 32 := BitVec.ofNat 32 (i 0).val
  let c2_i32 : BitVec 32 := 2#32
  let v3 : BitVec 32 := Scalar.remsi arg0 c2_i32
  let v276 : Index := Scalar.indexCast v3
  let c0_36 : Index := 0#32
  let c4096 : Index := 4096#32
  ![v276.toNat, 0, 4096]
def k0_off56 (i : grid0.Coords) : Fin 3 → Nat :=
  let arg0 : BitVec 32 := BitVec.ofNat 32 (i 0).val
  let c2_i32 : BitVec 32 := 2#32
  let v3 : BitVec 32 := Scalar.remsi arg0 c2_i32
  let v290 : Index := Scalar.indexCast v3
  let c0_37 : Index := 0#32
  let c1152 : Index := 1152#32
  ![v290.toNat, 0, 1152]
def k0_off57 (i : grid0.Coords) : Fin 3 → Nat :=
  let arg0 : BitVec 32 := BitVec.ofNat 32 (i 0).val
  let c2_i32 : BitVec 32 := 2#32
  let v3 : BitVec 32 := Scalar.remsi arg0 c2_i32
  let v304 : Index := Scalar.indexCast v3
  let c0_38 : Index := 0#32
  let c4224 : Index := 4224#32
  ![v304.toNat, 0, 4224]
def k0_off58 (i : grid0.Coords) : Fin 3 → Nat :=
  let arg0 : BitVec 32 := BitVec.ofNat 32 (i 0).val
  let c2_i32 : BitVec 32 := 2#32
  let v3 : BitVec 32 := Scalar.remsi arg0 c2_i32
  let v318 : Index := Scalar.indexCast v3
  let c0_39 : Index := 0#32
  let c1280 : Index := 1280#32
  ![v318.toNat, 0, 1280]
def k0_off59 (i : grid0.Coords) : Fin 3 → Nat :=
  let arg0 : BitVec 32 := BitVec.ofNat 32 (i 0).val
  let c2_i32 : BitVec 32 := 2#32
  let v3 : BitVec 32 := Scalar.remsi arg0 c2_i32
  let v332 : Index := Scalar.indexCast v3
  let c0_40 : Index := 0#32
  let c4352 : Index := 4352#32
  ![v332.toNat, 0, 4352]
def k0_off60 (i : grid0.Coords) : Fin 3 → Nat :=
  let arg0 : BitVec 32 := BitVec.ofNat 32 (i 0).val
  let c2_i32 : BitVec 32 := 2#32
  let v3 : BitVec 32 := Scalar.remsi arg0 c2_i32
  let v346 : Index := Scalar.indexCast v3
  let c0_41 : Index := 0#32
  let c1408 : Index := 1408#32
  ![v346.toNat, 0, 1408]
def k0_off61 (i : grid0.Coords) : Fin 3 → Nat :=
  let arg0 : BitVec 32 := BitVec.ofNat 32 (i 0).val
  let c2_i32 : BitVec 32 := 2#32
  let v3 : BitVec 32 := Scalar.remsi arg0 c2_i32
  let v360 : Index := Scalar.indexCast v3
  let c0_42 : Index := 0#32
  let c4480 : Index := 4480#32
  ![v360.toNat, 0, 4480]
def k0_off62 (i : grid0.Coords) : Fin 3 → Nat :=
  let arg0 : BitVec 32 := BitVec.ofNat 32 (i 0).val
  let c2_i32 : BitVec 32 := 2#32
  let v3 : BitVec 32 := Scalar.remsi arg0 c2_i32
  let v374 : Index := Scalar.indexCast v3
  let c0_43 : Index := 0#32
  let c1536 : Index := 1536#32
  ![v374.toNat, 0, 1536]
def k0_off63 (i : grid0.Coords) : Fin 3 → Nat :=
  let arg0 : BitVec 32 := BitVec.ofNat 32 (i 0).val
  let c2_i32 : BitVec 32 := 2#32
  let v3 : BitVec 32 := Scalar.remsi arg0 c2_i32
  let v388 : Index := Scalar.indexCast v3
  let c0_44 : Index := 0#32
  let c4608 : Index := 4608#32
  ![v388.toNat, 0, 4608]
def k0_off64 (i : grid0.Coords) : Fin 3 → Nat :=
  let arg0 : BitVec 32 := BitVec.ofNat 32 (i 0).val
  let c2_i32 : BitVec 32 := 2#32
  let v3 : BitVec 32 := Scalar.remsi arg0 c2_i32
  let v402 : Index := Scalar.indexCast v3
  let c0_45 : Index := 0#32
  let c1664 : Index := 1664#32
  ![v402.toNat, 0, 1664]
def k0_off65 (i : grid0.Coords) : Fin 3 → Nat :=
  let arg0 : BitVec 32 := BitVec.ofNat 32 (i 0).val
  let c2_i32 : BitVec 32 := 2#32
  let v3 : BitVec 32 := Scalar.remsi arg0 c2_i32
  let v416 : Index := Scalar.indexCast v3
  let c0_46 : Index := 0#32
  let c4736 : Index := 4736#32
  ![v416.toNat, 0, 4736]
def k0_off66 (i : grid0.Coords) : Fin 3 → Nat :=
  let arg0 : BitVec 32 := BitVec.ofNat 32 (i 0).val
  let c2_i32 : BitVec 32 := 2#32
  let v3 : BitVec 32 := Scalar.remsi arg0 c2_i32
  let v430 : Index := Scalar.indexCast v3
  let c0_47 : Index := 0#32
  let c1792 : Index := 1792#32
  ![v430.toNat, 0, 1792]
def k0_off67 (i : grid0.Coords) : Fin 3 → Nat :=
  let arg0 : BitVec 32 := BitVec.ofNat 32 (i 0).val
  let c2_i32 : BitVec 32 := 2#32
  let v3 : BitVec 32 := Scalar.remsi arg0 c2_i32
  let v444 : Index := Scalar.indexCast v3
  let c0_48 : Index := 0#32
  let c4864 : Index := 4864#32
  ![v444.toNat, 0, 4864]
def k0_off68 (i : grid0.Coords) : Fin 3 → Nat :=
  let arg0 : BitVec 32 := BitVec.ofNat 32 (i 0).val
  let c2_i32 : BitVec 32 := 2#32
  let v3 : BitVec 32 := Scalar.remsi arg0 c2_i32
  let v458 : Index := Scalar.indexCast v3
  let c0_49 : Index := 0#32
  let c1920 : Index := 1920#32
  ![v458.toNat, 0, 1920]
def k0_off69 (i : grid0.Coords) : Fin 3 → Nat :=
  let arg0 : BitVec 32 := BitVec.ofNat 32 (i 0).val
  let c2_i32 : BitVec 32 := 2#32
  let v3 : BitVec 32 := Scalar.remsi arg0 c2_i32
  let v472 : Index := Scalar.indexCast v3
  let c0_50 : Index := 0#32
  let c4992 : Index := 4992#32
  ![v472.toNat, 0, 4992]
def k0_off70 (i : grid0.Coords) : Fin 3 → Nat :=
  let arg0 : BitVec 32 := BitVec.ofNat 32 (i 0).val
  let c2_i32 : BitVec 32 := 2#32
  let v3 : BitVec 32 := Scalar.remsi arg0 c2_i32
  let v486 : Index := Scalar.indexCast v3
  let c0_51 : Index := 0#32
  let c2048 : Index := 2048#32
  ![v486.toNat, 0, 2048]
def k0_off71 (i : grid0.Coords) : Fin 3 → Nat :=
  let arg0 : BitVec 32 := BitVec.ofNat 32 (i 0).val
  let c2_i32 : BitVec 32 := 2#32
  let v3 : BitVec 32 := Scalar.remsi arg0 c2_i32
  let v500 : Index := Scalar.indexCast v3
  let c0_52 : Index := 0#32
  let c5120 : Index := 5120#32
  ![v500.toNat, 0, 5120]
def k0_off72 (i : grid0.Coords) : Fin 3 → Nat :=
  let arg0 : BitVec 32 := BitVec.ofNat 32 (i 0).val
  let c2_i32 : BitVec 32 := 2#32
  let v3 : BitVec 32 := Scalar.remsi arg0 c2_i32
  let v514 : Index := Scalar.indexCast v3
  let c0_53 : Index := 0#32
  let c2176 : Index := 2176#32
  ![v514.toNat, 0, 2176]
def k0_off73 (i : grid0.Coords) : Fin 3 → Nat :=
  let arg0 : BitVec 32 := BitVec.ofNat 32 (i 0).val
  let c2_i32 : BitVec 32 := 2#32
  let v3 : BitVec 32 := Scalar.remsi arg0 c2_i32
  let v528 : Index := Scalar.indexCast v3
  let c0_54 : Index := 0#32
  let c5248 : Index := 5248#32
  ![v528.toNat, 0, 5248]
def k0_off74 (i : grid0.Coords) : Fin 3 → Nat :=
  let arg0 : BitVec 32 := BitVec.ofNat 32 (i 0).val
  let c2_i32 : BitVec 32 := 2#32
  let v3 : BitVec 32 := Scalar.remsi arg0 c2_i32
  let v542 : Index := Scalar.indexCast v3
  let c0_55 : Index := 0#32
  let c2304 : Index := 2304#32
  ![v542.toNat, 0, 2304]
def k0_off75 (i : grid0.Coords) : Fin 3 → Nat :=
  let arg0 : BitVec 32 := BitVec.ofNat 32 (i 0).val
  let c2_i32 : BitVec 32 := 2#32
  let v3 : BitVec 32 := Scalar.remsi arg0 c2_i32
  let v556 : Index := Scalar.indexCast v3
  let c0_56 : Index := 0#32
  let c5376 : Index := 5376#32
  ![v556.toNat, 0, 5376]
def k0_off76 (i : grid0.Coords) : Fin 3 → Nat :=
  let arg0 : BitVec 32 := BitVec.ofNat 32 (i 0).val
  let c2_i32 : BitVec 32 := 2#32
  let v3 : BitVec 32 := Scalar.remsi arg0 c2_i32
  let v570 : Index := Scalar.indexCast v3
  let c0_57 : Index := 0#32
  let c2432 : Index := 2432#32
  ![v570.toNat, 0, 2432]
def k0_off77 (i : grid0.Coords) : Fin 3 → Nat :=
  let arg0 : BitVec 32 := BitVec.ofNat 32 (i 0).val
  let c2_i32 : BitVec 32 := 2#32
  let v3 : BitVec 32 := Scalar.remsi arg0 c2_i32
  let v584 : Index := Scalar.indexCast v3
  let c0_58 : Index := 0#32
  let c5504 : Index := 5504#32
  ![v584.toNat, 0, 5504]
def k0_off78 (i : grid0.Coords) : Fin 3 → Nat :=
  let arg0 : BitVec 32 := BitVec.ofNat 32 (i 0).val
  let c2_i32 : BitVec 32 := 2#32
  let v3 : BitVec 32 := Scalar.remsi arg0 c2_i32
  let v598 : Index := Scalar.indexCast v3
  let c0_59 : Index := 0#32
  let c2560 : Index := 2560#32
  ![v598.toNat, 0, 2560]
def k0_off79 (i : grid0.Coords) : Fin 3 → Nat :=
  let arg0 : BitVec 32 := BitVec.ofNat 32 (i 0).val
  let c2_i32 : BitVec 32 := 2#32
  let v3 : BitVec 32 := Scalar.remsi arg0 c2_i32
  let v612 : Index := Scalar.indexCast v3
  let c0_60 : Index := 0#32
  let c5632 : Index := 5632#32
  ![v612.toNat, 0, 5632]
def k0_off80 (i : grid0.Coords) : Fin 3 → Nat :=
  let arg0 : BitVec 32 := BitVec.ofNat 32 (i 0).val
  let c2_i32 : BitVec 32 := 2#32
  let v3 : BitVec 32 := Scalar.remsi arg0 c2_i32
  let v626 : Index := Scalar.indexCast v3
  let c0_61 : Index := 0#32
  let c2688 : Index := 2688#32
  ![v626.toNat, 0, 2688]
def k0_off81 (i : grid0.Coords) : Fin 3 → Nat :=
  let arg0 : BitVec 32 := BitVec.ofNat 32 (i 0).val
  let c2_i32 : BitVec 32 := 2#32
  let v3 : BitVec 32 := Scalar.remsi arg0 c2_i32
  let v640 : Index := Scalar.indexCast v3
  let c0_62 : Index := 0#32
  let c5760 : Index := 5760#32
  ![v640.toNat, 0, 5760]
def k0_off82 (i : grid0.Coords) : Fin 3 → Nat :=
  let arg0 : BitVec 32 := BitVec.ofNat 32 (i 0).val
  let c2_i32 : BitVec 32 := 2#32
  let v3 : BitVec 32 := Scalar.remsi arg0 c2_i32
  let v654 : Index := Scalar.indexCast v3
  let c0_63 : Index := 0#32
  let c2816 : Index := 2816#32
  ![v654.toNat, 0, 2816]
def k0_off83 (i : grid0.Coords) : Fin 3 → Nat :=
  let arg0 : BitVec 32 := BitVec.ofNat 32 (i 0).val
  let c2_i32 : BitVec 32 := 2#32
  let v3 : BitVec 32 := Scalar.remsi arg0 c2_i32
  let v668 : Index := Scalar.indexCast v3
  let c0_64 : Index := 0#32
  let c5888 : Index := 5888#32
  ![v668.toNat, 0, 5888]
def k0_off84 (i : grid0.Coords) : Fin 3 → Nat :=
  let arg0 : BitVec 32 := BitVec.ofNat 32 (i 0).val
  let c2_i32 : BitVec 32 := 2#32
  let v3 : BitVec 32 := Scalar.remsi arg0 c2_i32
  let v682 : Index := Scalar.indexCast v3
  let c0_65 : Index := 0#32
  let c2944 : Index := 2944#32
  ![v682.toNat, 0, 2944]
def k0_off85 (i : grid0.Coords) : Fin 3 → Nat :=
  let arg0 : BitVec 32 := BitVec.ofNat 32 (i 0).val
  let c2_i32 : BitVec 32 := 2#32
  let v3 : BitVec 32 := Scalar.remsi arg0 c2_i32
  let v696 : Index := Scalar.indexCast v3
  let c0_66 : Index := 0#32
  let c6016 : Index := 6016#32
  ![v696.toNat, 0, 6016]
def k0_off86 (i : grid0.Coords) : Fin 3 → Nat :=
  let arg0 : BitVec 32 := BitVec.ofNat 32 (i 0).val
  let c2_i32 : BitVec 32 := 2#32
  let v3 : BitVec 32 := Scalar.remsi arg0 c2_i32
  let v1326 : Index := Scalar.indexCast v3
  let c0_151 : Index := 0#32
  let c0_152 : Index := 0#32
  ![v1326.toNat, 0, 0]
def k0_cond9 (i : grid0.Coords) : BitVec 1 :=
  let arg0 : BitVec 32 := BitVec.ofNat 32 (i 0).val
  let c12_i32_12 : BitVec 32 := 12#32
  let v24 : BitVec 1 := Scalar.cmpi .slt arg0 c12_i32_12
  let arg1 : BitVec 32 := BitVec.ofNat 32 (i 1).val
  let c2_i32_13 : BitVec 32 := 2#32
  let v25 : BitVec 1 := Scalar.cmpi .eq arg1 c2_i32_13
  let v26 : BitVec 1 := Scalar.andi v24 v25
  let v27 : BitVec 32 := Scalar.extui v26
  let c0_i32_14 : BitVec 32 := 0#32
  let v28 : BitVec 1 := Scalar.cmpi .ne v27 c0_i32_14
  v28

def k0_off87 (i : grid0.Coords) : Fin 3 → Nat :=
  let arg0 : BitVec 32 := BitVec.ofNat 32 (i 0).val
  let c2_i32 : BitVec 32 := 2#32
  let v3 : BitVec 32 := Scalar.remsi arg0 c2_i32
  let v37 : Index := Scalar.indexCast v3
  let c0 : Index := 0#32
  let c0_19 : Index := 0#32
  ![v37.toNat, 0, 0]
def k0_off88 (i : grid0.Coords) : Fin 3 → Nat :=
  let arg0 : BitVec 32 := BitVec.ofNat 32 (i 0).val
  let c2_i32 : BitVec 32 := 2#32
  let v3 : BitVec 32 := Scalar.remsi arg0 c2_i32
  let v41 : Index := Scalar.indexCast v3
  let c0_20 : Index := 0#32
  let c0_21 : Index := 0#32
  ![v41.toNat, 0, 0]
def k0_off89 (i : grid0.Coords) : Fin 3 → Nat :=
  let arg0 : BitVec 32 := BitVec.ofNat 32 (i 0).val
  let c2_i32 : BitVec 32 := 2#32
  let v3 : BitVec 32 := Scalar.remsi arg0 c2_i32
  let v49 : Index := Scalar.indexCast v3
  let c0_22 : Index := 0#32
  let c128 : Index := 128#32
  ![v49.toNat, 0, 128]
def k0_off90 (i : grid0.Coords) : Fin 3 → Nat :=
  let arg0 : BitVec 32 := BitVec.ofNat 32 (i 0).val
  let c2_i32 : BitVec 32 := 2#32
  let v3 : BitVec 32 := Scalar.remsi arg0 c2_i32
  let v57 : Index := Scalar.indexCast v3
  let c0_23 : Index := 0#32
  let c256 : Index := 256#32
  ![v57.toNat, 0, 256]
def k0_off91 (i : grid0.Coords) : Fin 3 → Nat :=
  let arg0 : BitVec 32 := BitVec.ofNat 32 (i 0).val
  let c2_i32 : BitVec 32 := 2#32
  let v3 : BitVec 32 := Scalar.remsi arg0 c2_i32
  let v65 : Index := Scalar.indexCast v3
  let c0_24 : Index := 0#32
  let c384 : Index := 384#32
  ![v65.toNat, 0, 384]
def k0_off92 (i : grid0.Coords) : Fin 3 → Nat :=
  let arg0 : BitVec 32 := BitVec.ofNat 32 (i 0).val
  let c2_i32 : BitVec 32 := 2#32
  let v3 : BitVec 32 := Scalar.remsi arg0 c2_i32
  let v73 : Index := Scalar.indexCast v3
  let c0_25 : Index := 0#32
  let c512 : Index := 512#32
  ![v73.toNat, 0, 512]
def k0_off93 (i : grid0.Coords) : Fin 3 → Nat :=
  let arg0 : BitVec 32 := BitVec.ofNat 32 (i 0).val
  let c2_i32 : BitVec 32 := 2#32
  let v3 : BitVec 32 := Scalar.remsi arg0 c2_i32
  let v81 : Index := Scalar.indexCast v3
  let c0_26 : Index := 0#32
  let c640 : Index := 640#32
  ![v81.toNat, 0, 640]
def k0_off94 (i : grid0.Coords) : Fin 3 → Nat :=
  let arg0 : BitVec 32 := BitVec.ofNat 32 (i 0).val
  let c2_i32 : BitVec 32 := 2#32
  let v3 : BitVec 32 := Scalar.remsi arg0 c2_i32
  let v89 : Index := Scalar.indexCast v3
  let c0_27 : Index := 0#32
  let c768 : Index := 768#32
  ![v89.toNat, 0, 768]
def k0_off95 (i : grid0.Coords) : Fin 3 → Nat :=
  let arg0 : BitVec 32 := BitVec.ofNat 32 (i 0).val
  let c2_i32 : BitVec 32 := 2#32
  let v3 : BitVec 32 := Scalar.remsi arg0 c2_i32
  let v97 : Index := Scalar.indexCast v3
  let c0_28 : Index := 0#32
  let c896 : Index := 896#32
  ![v97.toNat, 0, 896]
def k0_off96 (i : grid0.Coords) : Fin 3 → Nat :=
  let arg0 : BitVec 32 := BitVec.ofNat 32 (i 0).val
  let c2_i32 : BitVec 32 := 2#32
  let v3 : BitVec 32 := Scalar.remsi arg0 c2_i32
  let v105 : Index := Scalar.indexCast v3
  let c0_29 : Index := 0#32
  let c1024 : Index := 1024#32
  ![v105.toNat, 0, 1024]
def k0_off97 (i : grid0.Coords) : Fin 3 → Nat :=
  let arg0 : BitVec 32 := BitVec.ofNat 32 (i 0).val
  let c2_i32 : BitVec 32 := 2#32
  let v3 : BitVec 32 := Scalar.remsi arg0 c2_i32
  let v113 : Index := Scalar.indexCast v3
  let c0_30 : Index := 0#32
  let c1152 : Index := 1152#32
  ![v113.toNat, 0, 1152]
def k0_off98 (i : grid0.Coords) : Fin 3 → Nat :=
  let arg0 : BitVec 32 := BitVec.ofNat 32 (i 0).val
  let c2_i32 : BitVec 32 := 2#32
  let v3 : BitVec 32 := Scalar.remsi arg0 c2_i32
  let v121 : Index := Scalar.indexCast v3
  let c0_31 : Index := 0#32
  let c1280 : Index := 1280#32
  ![v121.toNat, 0, 1280]
def k0_off99 (i : grid0.Coords) : Fin 3 → Nat :=
  let arg0 : BitVec 32 := BitVec.ofNat 32 (i 0).val
  let c2_i32 : BitVec 32 := 2#32
  let v3 : BitVec 32 := Scalar.remsi arg0 c2_i32
  let v129 : Index := Scalar.indexCast v3
  let c0_32 : Index := 0#32
  let c1408 : Index := 1408#32
  ![v129.toNat, 0, 1408]
def k0_off100 (i : grid0.Coords) : Fin 3 → Nat :=
  let arg0 : BitVec 32 := BitVec.ofNat 32 (i 0).val
  let c2_i32 : BitVec 32 := 2#32
  let v3 : BitVec 32 := Scalar.remsi arg0 c2_i32
  let v137 : Index := Scalar.indexCast v3
  let c0_33 : Index := 0#32
  let c1536 : Index := 1536#32
  ![v137.toNat, 0, 1536]
def k0_off101 (i : grid0.Coords) : Fin 3 → Nat :=
  let arg0 : BitVec 32 := BitVec.ofNat 32 (i 0).val
  let c2_i32 : BitVec 32 := 2#32
  let v3 : BitVec 32 := Scalar.remsi arg0 c2_i32
  let v145 : Index := Scalar.indexCast v3
  let c0_34 : Index := 0#32
  let c1664 : Index := 1664#32
  ![v145.toNat, 0, 1664]
def k0_off102 (i : grid0.Coords) : Fin 3 → Nat :=
  let arg0 : BitVec 32 := BitVec.ofNat 32 (i 0).val
  let c2_i32 : BitVec 32 := 2#32
  let v3 : BitVec 32 := Scalar.remsi arg0 c2_i32
  let v153 : Index := Scalar.indexCast v3
  let c0_35 : Index := 0#32
  let c1792 : Index := 1792#32
  ![v153.toNat, 0, 1792]
def k0_off103 (i : grid0.Coords) : Fin 3 → Nat :=
  let arg0 : BitVec 32 := BitVec.ofNat 32 (i 0).val
  let c2_i32 : BitVec 32 := 2#32
  let v3 : BitVec 32 := Scalar.remsi arg0 c2_i32
  let v161 : Index := Scalar.indexCast v3
  let c0_36 : Index := 0#32
  let c1920 : Index := 1920#32
  ![v161.toNat, 0, 1920]
def k0_off104 (i : grid0.Coords) : Fin 3 → Nat :=
  let arg0 : BitVec 32 := BitVec.ofNat 32 (i 0).val
  let c2_i32 : BitVec 32 := 2#32
  let v3 : BitVec 32 := Scalar.remsi arg0 c2_i32
  let v169 : Index := Scalar.indexCast v3
  let c0_37 : Index := 0#32
  let c2048 : Index := 2048#32
  ![v169.toNat, 0, 2048]
def k0_off105 (i : grid0.Coords) : Fin 3 → Nat :=
  let arg0 : BitVec 32 := BitVec.ofNat 32 (i 0).val
  let c2_i32 : BitVec 32 := 2#32
  let v3 : BitVec 32 := Scalar.remsi arg0 c2_i32
  let v177 : Index := Scalar.indexCast v3
  let c0_38 : Index := 0#32
  let c2176 : Index := 2176#32
  ![v177.toNat, 0, 2176]
def k0_off106 (i : grid0.Coords) : Fin 3 → Nat :=
  let arg0 : BitVec 32 := BitVec.ofNat 32 (i 0).val
  let c2_i32 : BitVec 32 := 2#32
  let v3 : BitVec 32 := Scalar.remsi arg0 c2_i32
  let v185 : Index := Scalar.indexCast v3
  let c0_39 : Index := 0#32
  let c2304 : Index := 2304#32
  ![v185.toNat, 0, 2304]
def k0_off107 (i : grid0.Coords) : Fin 3 → Nat :=
  let arg0 : BitVec 32 := BitVec.ofNat 32 (i 0).val
  let c2_i32 : BitVec 32 := 2#32
  let v3 : BitVec 32 := Scalar.remsi arg0 c2_i32
  let v193 : Index := Scalar.indexCast v3
  let c0_40 : Index := 0#32
  let c2432 : Index := 2432#32
  ![v193.toNat, 0, 2432]
def k0_off108 (i : grid0.Coords) : Fin 3 → Nat :=
  let arg0 : BitVec 32 := BitVec.ofNat 32 (i 0).val
  let c2_i32 : BitVec 32 := 2#32
  let v3 : BitVec 32 := Scalar.remsi arg0 c2_i32
  let v201 : Index := Scalar.indexCast v3
  let c0_41 : Index := 0#32
  let c2560 : Index := 2560#32
  ![v201.toNat, 0, 2560]
def k0_off109 (i : grid0.Coords) : Fin 3 → Nat :=
  let arg0 : BitVec 32 := BitVec.ofNat 32 (i 0).val
  let c2_i32 : BitVec 32 := 2#32
  let v3 : BitVec 32 := Scalar.remsi arg0 c2_i32
  let v209 : Index := Scalar.indexCast v3
  let c0_42 : Index := 0#32
  let c2688 : Index := 2688#32
  ![v209.toNat, 0, 2688]
def k0_off110 (i : grid0.Coords) : Fin 3 → Nat :=
  let arg0 : BitVec 32 := BitVec.ofNat 32 (i 0).val
  let c2_i32 : BitVec 32 := 2#32
  let v3 : BitVec 32 := Scalar.remsi arg0 c2_i32
  let v217 : Index := Scalar.indexCast v3
  let c0_43 : Index := 0#32
  let c2816 : Index := 2816#32
  ![v217.toNat, 0, 2816]
def k0_off111 (i : grid0.Coords) : Fin 3 → Nat :=
  let arg0 : BitVec 32 := BitVec.ofNat 32 (i 0).val
  let c2_i32 : BitVec 32 := 2#32
  let v3 : BitVec 32 := Scalar.remsi arg0 c2_i32
  let v225 : Index := Scalar.indexCast v3
  let c0_44 : Index := 0#32
  let c2944 : Index := 2944#32
  ![v225.toNat, 0, 2944]
def k0_off112 (i : grid0.Coords) : Fin 3 → Nat :=
  let arg0 : BitVec 32 := BitVec.ofNat 32 (i 0).val
  let c2_i32 : BitVec 32 := 2#32
  let v3 : BitVec 32 := Scalar.remsi arg0 c2_i32
  let v233 : Index := Scalar.indexCast v3
  let c0_45 : Index := 0#32
  let c3072 : Index := 3072#32
  ![v233.toNat, 0, 3072]
def k0_off113 (i : grid0.Coords) : Fin 3 → Nat :=
  let arg0 : BitVec 32 := BitVec.ofNat 32 (i 0).val
  let c2_i32 : BitVec 32 := 2#32
  let v3 : BitVec 32 := Scalar.remsi arg0 c2_i32
  let v241 : Index := Scalar.indexCast v3
  let c0_46 : Index := 0#32
  let c3200 : Index := 3200#32
  ![v241.toNat, 0, 3200]
def k0_off114 (i : grid0.Coords) : Fin 3 → Nat :=
  let arg0 : BitVec 32 := BitVec.ofNat 32 (i 0).val
  let c2_i32 : BitVec 32 := 2#32
  let v3 : BitVec 32 := Scalar.remsi arg0 c2_i32
  let v249 : Index := Scalar.indexCast v3
  let c0_47 : Index := 0#32
  let c3328 : Index := 3328#32
  ![v249.toNat, 0, 3328]
def k0_off115 (i : grid0.Coords) : Fin 3 → Nat :=
  let arg0 : BitVec 32 := BitVec.ofNat 32 (i 0).val
  let c2_i32 : BitVec 32 := 2#32
  let v3 : BitVec 32 := Scalar.remsi arg0 c2_i32
  let v257 : Index := Scalar.indexCast v3
  let c0_48 : Index := 0#32
  let c3456 : Index := 3456#32
  ![v257.toNat, 0, 3456]
def k0_off116 (i : grid0.Coords) : Fin 3 → Nat :=
  let arg0 : BitVec 32 := BitVec.ofNat 32 (i 0).val
  let c2_i32 : BitVec 32 := 2#32
  let v3 : BitVec 32 := Scalar.remsi arg0 c2_i32
  let v265 : Index := Scalar.indexCast v3
  let c0_49 : Index := 0#32
  let c3584 : Index := 3584#32
  ![v265.toNat, 0, 3584]
def k0_off117 (i : grid0.Coords) : Fin 3 → Nat :=
  let arg0 : BitVec 32 := BitVec.ofNat 32 (i 0).val
  let c2_i32 : BitVec 32 := 2#32
  let v3 : BitVec 32 := Scalar.remsi arg0 c2_i32
  let v273 : Index := Scalar.indexCast v3
  let c0_50 : Index := 0#32
  let c3712 : Index := 3712#32
  ![v273.toNat, 0, 3712]
def k0_off118 (i : grid0.Coords) : Fin 3 → Nat :=
  let arg0 : BitVec 32 := BitVec.ofNat 32 (i 0).val
  let c2_i32 : BitVec 32 := 2#32
  let v3 : BitVec 32 := Scalar.remsi arg0 c2_i32
  let v281 : Index := Scalar.indexCast v3
  let c0_51 : Index := 0#32
  let c3840 : Index := 3840#32
  ![v281.toNat, 0, 3840]
def k0_off119 (i : grid0.Coords) : Fin 3 → Nat :=
  let arg0 : BitVec 32 := BitVec.ofNat 32 (i 0).val
  let c2_i32 : BitVec 32 := 2#32
  let v3 : BitVec 32 := Scalar.remsi arg0 c2_i32
  let v289 : Index := Scalar.indexCast v3
  let c0_52 : Index := 0#32
  let c3968 : Index := 3968#32
  ![v289.toNat, 0, 3968]
def k0_off120 (i : grid0.Coords) : Fin 3 → Nat :=
  let arg0 : BitVec 32 := BitVec.ofNat 32 (i 0).val
  let c2_i32 : BitVec 32 := 2#32
  let v3 : BitVec 32 := Scalar.remsi arg0 c2_i32
  let v297 : Index := Scalar.indexCast v3
  let c0_53 : Index := 0#32
  let c4096 : Index := 4096#32
  ![v297.toNat, 0, 4096]
def k0_off121 (i : grid0.Coords) : Fin 3 → Nat :=
  let arg0 : BitVec 32 := BitVec.ofNat 32 (i 0).val
  let c2_i32 : BitVec 32 := 2#32
  let v3 : BitVec 32 := Scalar.remsi arg0 c2_i32
  let v305 : Index := Scalar.indexCast v3
  let c0_54 : Index := 0#32
  let c4224 : Index := 4224#32
  ![v305.toNat, 0, 4224]
def k0_off122 (i : grid0.Coords) : Fin 3 → Nat :=
  let arg0 : BitVec 32 := BitVec.ofNat 32 (i 0).val
  let c2_i32 : BitVec 32 := 2#32
  let v3 : BitVec 32 := Scalar.remsi arg0 c2_i32
  let v313 : Index := Scalar.indexCast v3
  let c0_55 : Index := 0#32
  let c4352 : Index := 4352#32
  ![v313.toNat, 0, 4352]
def k0_off123 (i : grid0.Coords) : Fin 3 → Nat :=
  let arg0 : BitVec 32 := BitVec.ofNat 32 (i 0).val
  let c2_i32 : BitVec 32 := 2#32
  let v3 : BitVec 32 := Scalar.remsi arg0 c2_i32
  let v321 : Index := Scalar.indexCast v3
  let c0_56 : Index := 0#32
  let c4480 : Index := 4480#32
  ![v321.toNat, 0, 4480]
def k0_off124 (i : grid0.Coords) : Fin 3 → Nat :=
  let arg0 : BitVec 32 := BitVec.ofNat 32 (i 0).val
  let c2_i32 : BitVec 32 := 2#32
  let v3 : BitVec 32 := Scalar.remsi arg0 c2_i32
  let v329 : Index := Scalar.indexCast v3
  let c0_57 : Index := 0#32
  let c4608 : Index := 4608#32
  ![v329.toNat, 0, 4608]
def k0_off125 (i : grid0.Coords) : Fin 3 → Nat :=
  let arg0 : BitVec 32 := BitVec.ofNat 32 (i 0).val
  let c2_i32 : BitVec 32 := 2#32
  let v3 : BitVec 32 := Scalar.remsi arg0 c2_i32
  let v337 : Index := Scalar.indexCast v3
  let c0_58 : Index := 0#32
  let c4736 : Index := 4736#32
  ![v337.toNat, 0, 4736]
def k0_off126 (i : grid0.Coords) : Fin 3 → Nat :=
  let arg0 : BitVec 32 := BitVec.ofNat 32 (i 0).val
  let c2_i32 : BitVec 32 := 2#32
  let v3 : BitVec 32 := Scalar.remsi arg0 c2_i32
  let v345 : Index := Scalar.indexCast v3
  let c0_59 : Index := 0#32
  let c4864 : Index := 4864#32
  ![v345.toNat, 0, 4864]
def k0_off127 (i : grid0.Coords) : Fin 3 → Nat :=
  let arg0 : BitVec 32 := BitVec.ofNat 32 (i 0).val
  let c2_i32 : BitVec 32 := 2#32
  let v3 : BitVec 32 := Scalar.remsi arg0 c2_i32
  let v353 : Index := Scalar.indexCast v3
  let c0_60 : Index := 0#32
  let c4992 : Index := 4992#32
  ![v353.toNat, 0, 4992]
def k0_off128 (i : grid0.Coords) : Fin 3 → Nat :=
  let arg0 : BitVec 32 := BitVec.ofNat 32 (i 0).val
  let c2_i32 : BitVec 32 := 2#32
  let v3 : BitVec 32 := Scalar.remsi arg0 c2_i32
  let v361 : Index := Scalar.indexCast v3
  let c0_61 : Index := 0#32
  let c5120 : Index := 5120#32
  ![v361.toNat, 0, 5120]
def k0_off129 (i : grid0.Coords) : Fin 3 → Nat :=
  let arg0 : BitVec 32 := BitVec.ofNat 32 (i 0).val
  let c2_i32 : BitVec 32 := 2#32
  let v3 : BitVec 32 := Scalar.remsi arg0 c2_i32
  let v369 : Index := Scalar.indexCast v3
  let c0_62 : Index := 0#32
  let c5248 : Index := 5248#32
  ![v369.toNat, 0, 5248]
def k0_off130 (i : grid0.Coords) : Fin 3 → Nat :=
  let arg0 : BitVec 32 := BitVec.ofNat 32 (i 0).val
  let c2_i32 : BitVec 32 := 2#32
  let v3 : BitVec 32 := Scalar.remsi arg0 c2_i32
  let v377 : Index := Scalar.indexCast v3
  let c0_63 : Index := 0#32
  let c5376 : Index := 5376#32
  ![v377.toNat, 0, 5376]
def k0_off131 (i : grid0.Coords) : Fin 3 → Nat :=
  let arg0 : BitVec 32 := BitVec.ofNat 32 (i 0).val
  let c2_i32 : BitVec 32 := 2#32
  let v3 : BitVec 32 := Scalar.remsi arg0 c2_i32
  let v385 : Index := Scalar.indexCast v3
  let c0_64 : Index := 0#32
  let c5504 : Index := 5504#32
  ![v385.toNat, 0, 5504]
def k0_off132 (i : grid0.Coords) : Fin 3 → Nat :=
  let arg0 : BitVec 32 := BitVec.ofNat 32 (i 0).val
  let c2_i32 : BitVec 32 := 2#32
  let v3 : BitVec 32 := Scalar.remsi arg0 c2_i32
  let v393 : Index := Scalar.indexCast v3
  let c0_65 : Index := 0#32
  let c5632 : Index := 5632#32
  ![v393.toNat, 0, 5632]
def k0_off133 (i : grid0.Coords) : Fin 3 → Nat :=
  let arg0 : BitVec 32 := BitVec.ofNat 32 (i 0).val
  let c2_i32 : BitVec 32 := 2#32
  let v3 : BitVec 32 := Scalar.remsi arg0 c2_i32
  let v401 : Index := Scalar.indexCast v3
  let c0_66 : Index := 0#32
  let c5760 : Index := 5760#32
  ![v401.toNat, 0, 5760]
def k0_off134 (i : grid0.Coords) : Fin 3 → Nat :=
  let arg0 : BitVec 32 := BitVec.ofNat 32 (i 0).val
  let c2_i32 : BitVec 32 := 2#32
  let v3 : BitVec 32 := Scalar.remsi arg0 c2_i32
  let v409 : Index := Scalar.indexCast v3
  let c0_67 : Index := 0#32
  let c5888 : Index := 5888#32
  ![v409.toNat, 0, 5888]
def k0_off135 (i : grid0.Coords) : Fin 3 → Nat :=
  let arg0 : BitVec 32 := BitVec.ofNat 32 (i 0).val
  let c2_i32 : BitVec 32 := 2#32
  let v3 : BitVec 32 := Scalar.remsi arg0 c2_i32
  let v417 : Index := Scalar.indexCast v3
  let c0_68 : Index := 0#32
  let c6016 : Index := 6016#32
  ![v417.toNat, 0, 6016]
def k0_off136 (i : grid0.Coords) : Fin 3 → Nat :=
  let arg0 : BitVec 32 := BitVec.ofNat 32 (i 0).val
  let c2_i32 : BitVec 32 := 2#32
  let v3 : BitVec 32 := Scalar.remsi arg0 c2_i32
  let v433 : Index := Scalar.indexCast v3
  let c0_73 : Index := 0#32
  let c0_74 : Index := 0#32
  ![v433.toNat, 0, 0]
@[reducible] def k0_t1_loop : Scf.Loop 32 :=
  let c0_i32_75 : BitVec 32 := 0#32
  let c31_i32 : BitVec 32 := 31#32
  let v436 : BitVec 32 := Scalar.addi c0_i32_75 c31_i32
  let c1_i32_76 : BitVec 32 := 1#32
  ⟨c0_i32_75, v436, c1_i32_76⟩
def k0_off137 (i : grid0.Coords) : Fin 3 → Nat :=
  let arg0 : BitVec 32 := BitVec.ofNat 32 (i 0).val
  let c2_i32 : BitVec 32 := 2#32
  let v3 : BitVec 32 := Scalar.remsi arg0 c2_i32
  let v442 : Index := Scalar.indexCast v3
  let c0_78 : Index := 0#32
  let c0_79 : Index := 0#32
  ![v442.toNat, 0, 0]
def k0_cond11 (i : grid0.Coords) : BitVec 1 :=
  let arg0 : BitVec 32 := BitVec.ofNat 32 (i 0).val
  let c12_i32_15 : BitVec 32 := 12#32
  let v29 : BitVec 1 := Scalar.cmpi .slt arg0 c12_i32_15
  let arg1 : BitVec 32 := BitVec.ofNat 32 (i 1).val
  let c3_i32 : BitVec 32 := 3#32
  let v30 : BitVec 1 := Scalar.cmpi .eq arg1 c3_i32
  let v31 : BitVec 1 := Scalar.andi v29 v30
  let v32 : BitVec 32 := Scalar.extui v31
  let c0_i32_16 : BitVec 32 := 0#32
  let v33 : BitVec 1 := Scalar.cmpi .ne v32 c0_i32_16
  v33

def k0_off138 (i : grid0.Coords) : Fin 3 → Nat :=
  let arg0 : BitVec 32 := BitVec.ofNat 32 (i 0).val
  let c2_i32 : BitVec 32 := 2#32
  let v3 : BitVec 32 := Scalar.remsi arg0 c2_i32
  let v37 : Index := Scalar.indexCast v3
  let c0 : Index := 0#32
  let c0_19 : Index := 0#32
  ![v37.toNat, 0, 0]
def k0_off139 (i : grid0.Coords) : Fin 3 → Nat :=
  let arg0 : BitVec 32 := BitVec.ofNat 32 (i 0).val
  let c2_i32 : BitVec 32 := 2#32
  let v3 : BitVec 32 := Scalar.remsi arg0 c2_i32
  let v40 : Index := Scalar.indexCast v3
  let c0_20 : Index := 0#32
  let c0_21 : Index := 0#32
  ![v40.toNat, 0, 0]
def k0_cond12 (i : grid0.Coords) : BitVec 1 :=
  let arg0 : BitVec 32 := BitVec.ofNat 32 (i 0).val
  let c0_i32_17 : BitVec 32 := 0#32
  let v34 : BitVec 1 := Scalar.cmpi .sgt arg0 c0_i32_17
  let v35 : BitVec 32 := Scalar.extui v34
  let c0_i32_18 : BitVec 32 := 0#32
  let v36 : BitVec 1 := Scalar.cmpi .ne v35 c0_i32_18
  v36

def k0_off140 (i : grid0.Coords) : Fin 3 → Nat :=
  let arg0 : BitVec 32 := BitVec.ofNat 32 (i 0).val
  let c1_i32_0 : BitVec 32 := 1#32
  let v4 : BitVec 32 := Scalar.addi arg0 c1_i32_0
  let c2_i32_1 : BitVec 32 := 2#32
  let v5 : BitVec 32 := Scalar.remsi v4 c2_i32_1
  let v38 : Index := Scalar.indexCast v5
  let c0 : Index := 0#32
  let arg1 : BitVec 32 := BitVec.ofNat 32 (i 1).val
  let c1536_i32 : BitVec 32 := 1536#32
  let v37 : BitVec 32 := Scalar.muli arg1 c1536_i32
  let v39 : Index := Scalar.indexCast v37
  ![v38.toNat, 0, v39.toNat]
def k0_off141 (i : grid0.Coords) : Fin 3 → Nat :=
  let arg0 : BitVec 32 := BitVec.ofNat 32 (i 0).val
  let c1_i32_0 : BitVec 32 := 1#32
  let v4 : BitVec 32 := Scalar.addi arg0 c1_i32_0
  let c2_i32_1 : BitVec 32 := 2#32
  let v5 : BitVec 32 := Scalar.remsi v4 c2_i32_1
  let v45 : Index := Scalar.indexCast v5
  let c0_22 : Index := 0#32
  let c0_23 : Index := 0#32
  ![v45.toNat, 0, 0]
def k0_cond13 (i : grid0.Coords) : BitVec 1 :=
  let arg1 : BitVec 32 := BitVec.ofNat 32 (i 1).val
  let c3_i32_27 : BitVec 32 := 3#32
  let v51 : BitVec 1 := Scalar.cmpi .slt arg1 c3_i32_27
  let v52 : BitVec 32 := Scalar.extui v51
  let c0_i32_28 : BitVec 32 := 0#32
  let v53 : BitVec 1 := Scalar.cmpi .ne v52 c0_i32_28
  v53

def k0_off142 (i : grid0.Coords) : Fin 3 → Nat :=
  let arg1 : BitVec 32 := BitVec.ofNat 32 (i 1).val
  let v57 : Index := Scalar.indexCast arg1
  let c0_31 : Index := 0#32
  let c0_32 : Index := 0#32
  ![v57.toNat, 0, 0]
def k0_cond14 (i : grid0.Coords) : BitVec 1 :=
  let arg1 : BitVec 32 := BitVec.ofNat 32 (i 1).val
  let c3_i32_29 : BitVec 32 := 3#32
  let v54 : BitVec 1 := Scalar.cmpi .eq arg1 c3_i32_29
  let v55 : BitVec 32 := Scalar.extui v54
  let c0_i32_30 : BitVec 32 := 0#32
  let v56 : BitVec 1 := Scalar.cmpi .ne v55 c0_i32_30
  v56

def k0_off143 (i : grid0.Coords) : Fin 3 → Nat :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let v64 : Index := Scalar.indexCast v2
  let c0_38 : Index := 0#32
  let c0_39 : Index := 0#32
  ![v64.toNat, 0, 0]
def k0_off144 (i : grid0.Coords) : Fin 3 → Nat :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let v72 : Index := Scalar.indexCast v2
  let c0_43 : Index := 0#32
  let c0_44 : Index := 0#32
  ![v72.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  ![v1.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  ![v1.toNat, c0_i32_2.toNat, v3.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 1 → Memref sig .tc .vmem S12x32x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S12x1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S12x1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x192x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .smem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S32x12x768 : Shape := ⟨3, ![32, 12, 768]⟩
abbrev S12x768 : Shape := ⟨2, ![12, 768]⟩
abbrev S12x6144x768 : Shape := ⟨3, ![12, 6144, 768]⟩
abbrev S12x6144 : Shape := ⟨2, ![12, 6144]⟩
abbrev S12x768x6144 : Shape := ⟨3, ![12, 768, 6144]⟩
abbrev S1x12x768 : Shape := ⟨3, ![1, 12, 768]⟩
abbrev S12x6144x32 : Shape := ⟨3, ![12, 6144, 32]⟩
abbrev S32x12x6144 : Shape := ⟨3, ![32, 12, 6144]⟩
abbrev S1x12x6144 : Shape := ⟨3, ![1, 12, 6144]⟩
abbrev S384x6144 : Shape := ⟨2, ![384, 6144]⟩
abbrev S384x32 : Shape := ⟨2, ![384, 32]⟩
abbrev S384 : Shape := ⟨1, ![384]⟩
abbrev S384x1 : Shape := ⟨2, ![384, 1]⟩
abbrev S_ : Shape := ⟨0, ![]⟩
abbrev S384x32x1 : Shape := ⟨3, ![384, 32, 1]⟩
abbrev S384x32x2 : Shape := ⟨3, ![384, 32, 2]⟩
abbrev S12x768x32 : Shape := ⟨3, ![12, 768, 32]⟩
abbrev S32x12 : Shape := ⟨2, ![32, 12]⟩

abbrev nBuf : Space → Nat
  | .hbm => 56
  | .vmem => 0
  | .smem => 0
  | _ => 0

abbrev bufTy : (tb : Table) → Fin (tcTables nBuf tb) → BufTy
  | .hbm, ⟨0, _⟩ => ⟨S32x12x768, .f32⟩
  | .hbm, ⟨1, _⟩ => ⟨S12x768, .f32⟩
  | .hbm, ⟨2, _⟩ => ⟨S12x6144x768, .f32⟩
  | .hbm, ⟨3, _⟩ => ⟨S12x6144, .f32⟩
  | .hbm, ⟨4, _⟩ => ⟨S12x768x6144, .f32⟩
  | .hbm, ⟨5, _⟩ => ⟨S1x12x768, .f32⟩
  | .hbm, ⟨6, _⟩ => ⟨S32x12x768, .f32⟩
  | .hbm, ⟨7, _⟩ => ⟨S32x12x768, .f32⟩
  | .hbm, ⟨8, _⟩ => ⟨S12x6144x32, .f32⟩
  | .hbm, ⟨9, _⟩ => ⟨S32x12x6144, .f32⟩
  | .hbm, ⟨10, _⟩ => ⟨S1x12x6144, .f32⟩
  | .hbm, ⟨11, _⟩ => ⟨S32x12x6144, .f32⟩
  | .hbm, ⟨12, _⟩ => ⟨S32x12x6144, .f32⟩
  | .hbm, ⟨13, _⟩ => ⟨S384x6144, .f32⟩
  | .hbm, ⟨14, _⟩ => ⟨S384x32, .f32⟩
  | .hbm, ⟨15, _⟩ => ⟨S384x32, .i32⟩
  | .hbm, ⟨16, _⟩ => ⟨S384, .i32⟩
  | .hbm, ⟨17, _⟩ => ⟨S384x1, .i32⟩
  | .hbm, ⟨18, _⟩ => ⟨S_, .f32⟩
  | .hbm, ⟨19, _⟩ => ⟨S384x6144, .f32⟩
  | .hbm, ⟨20, _⟩ => ⟨S_, .f32⟩
  | .hbm, ⟨21, _⟩ => ⟨S384x32, .f32⟩
  | .hbm, ⟨22, _⟩ => ⟨S384x32, .f32⟩
  | .hbm, ⟨23, _⟩ => ⟨S_, .i32⟩
  | .hbm, ⟨24, _⟩ => ⟨S384x1, .i32⟩
  | .hbm, ⟨25, _⟩ => ⟨S384x1, .i1⟩
  | .hbm, ⟨26, _⟩ => ⟨S_, .i32⟩
  | .hbm, ⟨27, _⟩ => ⟨S384x1, .i32⟩
  | .hbm, ⟨28, _⟩ => ⟨S384x1, .i32⟩
  | .hbm, ⟨29, _⟩ => ⟨S384x1, .i32⟩
  | .hbm, ⟨30, _⟩ => ⟨S_, .i32⟩
  | .hbm, ⟨31, _⟩ => ⟨S384x32, .i32⟩
  | .hbm, ⟨32, _⟩ => ⟨S384x32, .i1⟩
  | .hbm, ⟨33, _⟩ => ⟨S_, .i32⟩
  | .hbm, ⟨34, _⟩ => ⟨S384x32, .i32⟩
  | .hbm, ⟨35, _⟩ => ⟨S384x32, .i32⟩
  | .hbm, ⟨36, _⟩ => ⟨S384x32, .i32⟩
  | .hbm, ⟨37, _⟩ => ⟨S384x32, .i32⟩
  | .hbm, ⟨38, _⟩ => ⟨S384x32x1, .i32⟩
  | .hbm, ⟨39, _⟩ => ⟨S384x32x1, .i32⟩
  | .hbm, ⟨40, _⟩ => ⟨S384x32x2, .i32⟩
  | .hbm, ⟨41, _⟩ => ⟨S384x6144, .f32⟩
  | .hbm, ⟨42, _⟩ => ⟨S32x12x6144, .f32⟩
  | .hbm, ⟨43, _⟩ => ⟨S12x768x32, .f32⟩
  | .hbm, ⟨44, _⟩ => ⟨S32x12x768, .f32⟩
  | .hbm, ⟨45, _⟩ => ⟨S1x12x768, .f32⟩
  | .hbm, ⟨46, _⟩ => ⟨S32x12x768, .f32⟩
  | .hbm, ⟨47, _⟩ => ⟨S32x12x768, .f32⟩
  | .hbm, ⟨48, _⟩ => ⟨S32x12x768, .f32⟩
  | .hbm, ⟨49, _⟩ => ⟨S32x12x768, .f32⟩
  | .hbm, ⟨50, _⟩ => ⟨S_, .f32⟩
  | .hbm, ⟨51, _⟩ => ⟨S32x12, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S32x12x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_values : Ref sig .tc := ⟨.hbm, 14, rfl⟩
abbrev main_indices : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Proof.Net.lean ====
module

public import proofs.«01_k».proof.Proof.Gen.KernelIdeal.Skeleton
public import Idealize.ShloMosaic.Lib.Tactic
public import Idealize.ShloMosaic.Lib.Pipeline.FrameBody

@[expose] public section

set_option maxRecDepth 65536

noncomputable section

namespace Cert.KernelIdeal.Prf

open Idealize.ShloMosaic Idealize.ShloMosaic.TcCoe Idealize.ShloMosaic.Tactic
open Idealize.SL Idealize.SL.Sem
open Cert.KernelIdeal Cert.KernelIdeal.Gen

variable {F : FTy → Type} [FloatOps F]

/-! # The threshold search as functions of vectors

Every definition here names what the kernel's body computes between two memory operations: the six-deep lists of
large values kept lane by lane, the 31 removals of the largest head, the count that checks the threshold found, and
the slower search that replaces it where the count is too large. -/

/-- Minus infinity in every lane. -/
def low : FVec F S32x128 .f32 := broadcast S32x128 (Scalar.ofBits .f32 0xFF800000#32)

/-- A block of 128 columns without its leading unit axis. -/
def flat (x : Vec F S1x32x128 .f32) : FVec F S32x128 .f32 := shapeCast S32x128 x shapeCasts_S1x32x128_S32x128

/-- The value that reaches position `i` of a list when `v` is put into it from the front: at each position the smaller
    of the two goes on. -/
def carry (m : ℕ → FVec F S32x128 .f32) (v : FVec F S32x128 .f32) : ℕ → FVec F S32x128 .f32
  | 0 => v
  | i + 1 => minimumf (m i) (carry m v i)

/-- The list after the first `s` blocks: at each position the larger of the two stays. -/
def rows (c : ℕ → FVec F S32x128 .f32) : ℕ → ℕ → FVec F S32x128 .f32
  | 0, _ => low
  | s + 1, i => maximumf (rows c s i) (carry (rows c s) (c s) i)

/-- The largest head of the two lists, row by row. -/
def top (p q : ℕ → FVec F S32x128 .f32) : FVec F S32x1 .f32 :=
  shapeCast S32x1 (multiReduction .maximumf [1] S32 (maximumf (p 0) (q 0)) 0xFF800000#32 reduces_S32x128_S32 (.inl rfl) rfl)
    shapeCasts_S32_S32x1

/-- A list whose head is dropped in the lanes where it equals `m`. -/
def pop (m : FVec F S32x1 .f32) (p : ℕ → FVec F S32x128 .f32) (i : ℕ) : FVec F S32x128 .f32 :=
  select (cmpf .oeq (p 0) (broadcastTo S32x128 m broadcasts_S32x1_S32x128)) (bif i == 5 then low else p (i + 1)) (p i)

/-- The two lists after `s` removals. -/
def pops (p q : ℕ → FVec F S32x128 .f32) : ℕ → Bool → ℕ → FVec F S32x128 .f32
  | 0, g => bif g then q else p
  | s + 1, g => pop (top (pops p q s false) (pops p q s true)) (pops p q s g)

/-- A column repeated along the lanes, as it is stored. -/
def spread (x : FVec F S32x1 .f32) : FVec F S1x32x128 .f32 :=
  shapeCast S1x32x128 (broadcastTo S32x128 (shapeCast S32x1 x shapeCasts_S32x1_S32x1) broadcasts_S32x1_S32x128)
    shapeCasts_S32x128_S1x32x128

/-- The two lists of the 48 blocks of a row. -/
def lists (c : ℕ → Vec F S1x32x128 .f32) (g : Bool) : ℕ → FVec F S32x128 .f32 :=
  rows (fun s => flat (c (bif g then 24 + s else s))) 24

/-- The threshold the lists give: the largest head after 31 removals. -/
def quick (c : ℕ → Vec F S1x32x128 .f32) : FVec F S32x1 .f32 :=
  top (pops (lists c false) (lists c true) 31 false) (pops (lists c false) (lists c true) 31 true)

/-- How many of the first `n` blocks exceed the threshold, lane by lane. -/
def tally (thr : FVec F S32x1 .f32) (c : ℕ → Vec F S1x32x128 .f32) : ℕ → FVec F S32x128 .f32
  | 0 => broadcast S32x128 (Scalar.ofBits .f32 0x00000000#32)
  | n + 1 => addf (tally thr c n)
      (sitofp .f32 (extui 32 (cmpf .ogt (flat (c n)) (broadcastTo S32x128 thr broadcasts_S32x1_S32x128)) natLt_1_32))

/-- The largest row count. -/
def excess (thr : FVec F S32x1 .f32) (c : ℕ → Vec F S1x32x128 .f32) : F .f32 :=
  extractAt ![0, 0] (shapeCast S1x1 (multiReduction .maximumf [1] S1 (shapeCast S1x32 (multiReduction .add [1] S32 (tally thr c 48)
    0x00000000#32 reduces_S32x128_S32 (.inl rfl) rfl) shapeCasts_S32_S1x32) 0xFF800000#32 reduces_S1x32_S1 (.inl rfl) rfl)
    shapeCasts_S1_S1x1) inpos_S1x1_p0_0

/-- The word of the check: one where some row has more than 31 entries above its threshold. -/
def bad (thr : FVec F S32x1 .f32) (c : ℕ → Vec F S1x32x128 .f32) : BitVec 1 :=
  Scalar.cmpi .ne (Scalar.extui (Scalar.cmpf .ogt (excess thr c) (Scalar.ofBits .f32 0x41F80000#32)) : BitVec 32) 0#32

/-- The column of a threshold block. -/
def column (x : Vec F S1x32x1 .f32) : FVec F S32x1 .f32 := shapeCast S32x1 x shapeCasts_S1x32x1_S32x1

/-- `n` rounds that each drop a row's largest value. -/
def dropped (x : FVec F S32x6144 .f32) : ℕ → FVec F S32x6144 .f32
  | 0 => x
  | n + 1 => k0_pay944 (dropped x n)

end Cert.KernelIdeal.Prf
-- ==== Proof.Program.lean ====
module

public import proofs.«01_k».proof.Proof.Net
public import Idealize.ShloMosaic.Lib.Tactic
public import Idealize.ShloMosaic.Lib.Pipeline.FrameBody

@[expose] public section

set_option maxRecDepth 65536

noncomputable section

namespace Cert.KernelIdeal.Prf

open Idealize.ShloMosaic Idealize.ShloMosaic.TcCoe Idealize.ShloMosaic.Tactic
open Idealize.SL Idealize.SL.Sem
open Cert.KernelIdeal Cert.KernelIdeal.Gen

variable {F : FTy → Type} [FloatOps F]

/-! # The body, written as seven guarded steps

`body` is the printed kernel function at a grid point, spelled with the grid's words and with each transfer named by
its slot, stack and quarter; `body_eq` says that the two programs are the same. -/

variable (i : grid0.Coords)

/-- The first grid coordinate as a word. -/
abbrev a0 : BitVec 32 := BitVec.ofNat 32 (i 0).val
/-- The second grid coordinate as a word. -/
abbrev a1 : BitVec 32 := BitVec.ofNat 32 (i 1).val
/-- The slot this stack's scratch blocks are in. -/
def wSlot : ℕ := (Scalar.remsi (a0 i) 2#32).toNat
/-- The other slot: the next stack's, and the previous one's. -/
def wOther : ℕ := (Scalar.remsi (Scalar.addi (a0 i) 1#32) 2#32).toNat
/-- The next stack. -/
def wNext : ℕ := (Scalar.addi (a0 i) 1#32).toNat
/-- The stack encoded here. -/
def wEnc : ℕ := (Scalar.minsi (a0 i) 11#32).toNat
/-- Its slot in the weight buffer. -/
def wEncSlot : ℕ := (Scalar.remsi (Scalar.minsi (a0 i) 11#32) 2#32).toNat
/-- The stack decoded here. -/
def wDec : ℕ := (Scalar.maxsi (Scalar.subi (a0 i) 1#32) 0#32).toNat
/-- The quarter's first column. -/
def wCol : ℕ := (Scalar.muli (a1 i) 1536#32).toNat
/-- The quarter. -/
def wQuarter : ℕ := (a1 i).toNat

theorem wSlot_eq : ∀ i : grid0.Coords, wSlot i = (i 0).val % 2 := by decide +kernel
theorem wOther_eq : ∀ i : grid0.Coords, wOther i = ((i 0).val + 1) % 2 := by decide +kernel
theorem wNext_eq : ∀ i : grid0.Coords, wNext i = (i 0).val + 1 := by decide +kernel
theorem wEnc_eq : ∀ i : grid0.Coords, wEnc i = min (i 0).val 11 := by decide +kernel
theorem wEncSlot_eq : ∀ i : grid0.Coords, wEncSlot i = min (i 0).val 11 % 2 := by decide +kernel
theorem wDec_eq : ∀ i : grid0.Coords, wDec i = (i 0).val - 1 := by decide +kernel
theorem wCol_eq : ∀ i : grid0.Coords, wCol i = 1536 * (i 1).val := by decide +kernel
theorem wQuarter_eq : ∀ i : grid0.Coords, wQuarter i = (i 1).val := by decide +kernel
theorem i0_lt : ∀ i : grid0.Coords, (i 0).val < 13 := by decide +kernel
theorem i1_lt : ∀ i : grid0.Coords, (i 1).val < 4 := by decide +kernel

theorem cond1_iff : ∀ i : grid0.Coords, k0_cond1 i = 1#1 ↔ (i 0).val = 0 ∧ (i 1).val = 0 := by decide +kernel
theorem cond2_iff : ∀ i : grid0.Coords, k0_cond2 i = 1#1 ↔ (i 0).val < 11 := by decide +kernel
theorem cond3_iff : ∀ i : grid0.Coords, k0_cond3 i = 1#1 ↔ (i 1).val = 0 := by decide +kernel
theorem cond4_iff : ∀ i : grid0.Coords, k0_cond4 i = 1#1 ↔ (i 1).val = 1 := by decide +kernel
theorem cond5_iff : ∀ i : grid0.Coords, k0_cond5 i = 1#1 ↔ (i 1).val = 2 := by decide +kernel
theorem cond6_iff : ∀ i : grid0.Coords, k0_cond6 i = 1#1 ↔ (i 1).val = 3 := by decide +kernel
theorem cond7_iff : ∀ i : grid0.Coords, k0_cond7 i = 1#1 ↔ (i 0).val < 12 ∧ (i 1).val = 0 := by decide +kernel
theorem cond8_iff : ∀ i : grid0.Coords, k0_cond8 i = 1#1 ↔ (i 0).val < 12 ∧ (i 1).val = 1 := by decide +kernel
theorem cond9_iff : ∀ i : grid0.Coords, k0_cond9 i = 1#1 ↔ (i 0).val < 12 ∧ (i 1).val = 2 := by decide +kernel
theorem cond11_iff : ∀ i : grid0.Coords, k0_cond11 i = 1#1 ↔ (i 0).val < 12 ∧ (i 1).val = 3 := by decide +kernel
theorem cond12_iff : ∀ i : grid0.Coords, k0_cond12 i = 1#1 ↔ 0 < (i 0).val := by decide +kernel
theorem cond13_iff : ∀ i : grid0.Coords, k0_cond13 i = 1#1 ↔ (i 1).val < 3 := by decide +kernel
theorem cond14_iff : ∀ i : grid0.Coords, k0_cond14 i = 1#1 ↔ (i 1).val = 3 := by decide +kernel

theorem wSlot_lt : wSlot i < 2 := by rw [wSlot_eq]; omega
theorem wOther_lt : wOther i < 2 := by rw [wOther_eq]; omega
theorem wEncSlot_lt : wEncSlot i < 2 := by rw [wEncSlot_eq]; omega
theorem wEnc_lt : wEnc i < 12 := by rw [wEnc_eq]; omega
theorem wDec_lt : wDec i < 12 := by rw [wDec_eq]; have := i0_lt i; omega
theorem wNext_lt (h : k0_cond2 i = 1#1) : wNext i < 12 := by rw [wNext_eq]; have := (cond2_iff i).1 h; omega
theorem wCol_le : wCol i + 1536 ≤ 6144 := by rw [wCol_eq]; have := i1_lt i; omega
theorem wQuarter_lt (h : k0_cond13 i = 1#1) : wQuarter i < 3 := by rw [wQuarter_eq]; exact (cond13_iff i).1 h

/-- A step done where a condition holds, before the rest. -/
abbrev guard {α : Type} (P : Prop) [Decidable P] (X : P → Prog (TpuEff nD τ sig (Elt F) Λ₀ .tc) α → Prog (TpuEff nD τ sig (Elt F) Λ₀ .tc) α)
    (rest : Prog (TpuEff nD τ sig (Elt F) Λ₀ .tc) α) : Prog (TpuEff nD τ sig (Elt F) Λ₀ .tc) α :=
  if h : P then X h rest else rest

/-! ## The memory the body uses -/

/-- The encoder weights in main memory. -/
abbrev mW : Memref sig .tc .hbm S12x6144x768 .f32 := Memref.whole main_arg2
/-- The pre-activations, two slots. -/
abbrev mPre : Memref sig .tc .vmem S2x32x6144 .f32 := Memref.whole cc0_scratch0
/-- The thresholds, two slots. -/
abbrev mThr : Memref sig .tc .vmem S2x32x128 .f32 := Memref.whole cc0_scratch1
/-- The first three column blocks of a reconstruction. -/
abbrev mAcc : Memref sig .tc .vmem S3x32x192 .f32 := Memref.whole cc0_scratch2
/-- The sparse codes, two slots. -/
abbrev mU : Memref sig .tc .vmem S2x32x6144 .f32 := Memref.whole cc0_scratch3
/-- The encoder weights of two stacks. -/
abbrev mBuf : Memref sig .tc .vmem S2x6144x768 .f32 := Memref.whole cc0_scratch4

theorem inb3 {a b c x y z : ℕ} {o0 o1 o2 : ℕ} (h0 : o0 + x ≤ a) (h1 : o1 + y ≤ b) (h2 : o2 + z ≤ c) :
    ∀ k, (![o0, o1, o2] : Fin 3 → ℕ) k + (![x, y, z] : Fin 3 → ℕ) k ≤ (![a, b, c] : Fin 3 → ℕ) k := by
  intro k
  fin_cases k
  · exact h0
  · exact h1
  · exact h2

theorem inb2 {a b x y : ℕ} {o0 o1 : ℕ} (h0 : o0 + x ≤ a) (h1 : o1 + y ≤ b) :
    ∀ k, (![o0, o1] : Fin 2 → ℕ) k + (![x, y] : Fin 2 → ℕ) k ≤ (![a, b] : Fin 2 → ℕ) k := by
  intro k
  fin_cases k
  · exact h0
  · exact h1

/-- Quarter `q` of stack `b` of the weights. -/
abbrev srcRect (b q : ℕ) (hb : b < 12) (hq : q < 4) : Rect S12x6144x768 :=
  Rect.unit (s := S12x6144x768) ![b, 1536 * q, 0] S1x1536x768.size (inb3 (by omega) (by omega) (by omega))
/-- Quarter `q` of slot `s` of the weight buffer. -/
abbrev dstRect (s q : ℕ) (hs : s < 2) (hq : q < 4) : Rect S2x6144x768 :=
  Rect.unit (s := S2x6144x768) ![s, 1536 * q, 0] S1x1536x768.size (inb3 (by omega) (by omega) (by omega))
/-- The memory a transfer reads; -/
abbrev mSrc (b q : ℕ) (hb : b < 12) (hq : q < 4) : Memref sig .tc .hbm S1536x768 .f32 :=
  (mW.slice (srcRect b q hb hq) (fun _ => rfl)).squeeze S1536x768 squeezes_S1x1536x768_S1536x768
/-- the memory it writes; -/
abbrev mDst (s q : ℕ) (hs : s < 2) (hq : q < 4) : Memref sig .tc .vmem S1536x768 .f32 :=
  (mBuf.slice (dstRect s q hs hq) (fun _ => rfl)).squeeze S1536x768 squeezes_S1x1536x768_S1536x768
/-- and the counter it raises. -/
abbrev cellOf (s q : ℕ) (hs : s < 2) (hq : q < 4) : DmaSem sig :=
  ((cc0_scratch5.slice (Rect.unit (s := S2x4) ![s, q] S1x1.size (inb2 (by omega) (by omega)))).squeeze S_ squeezes_S1x1_S_).sem

/-- Start the transfer of quarter `q` of stack `b` into slot `s`. -/
def issue {α : Type} (s b q : ℕ) (hs : s < 2) (hb : b < 12) (hq : q < 4) (k : Prog (TpuEff nD τ sig (Elt F) Λ₀ .tc) α) :
    Prog (TpuEff nD τ sig (Elt F) Λ₀ .tc) α := do
  Prog.lift (.enqueueDma (mSrc b q hb hq) (.here (mDst s q hs hq)) (.dma (cellOf s q hs hq)) ((View.wordExact_bits rfl).reshape _ _)
    ((View.wordExact_bits rfl).reshape _ _) ⟨Or.inl rfl, trivial⟩)
  k

/-- Wait for it. -/
def await {α : Type} (s b q : ℕ) (hs : s < 2) (hb : b < 12) (hq : q < 4) (k : Prog (TpuEff nD τ sig (Elt F) Λ₀ .tc) α) :
    Prog (TpuEff nD τ sig (Elt F) Λ₀ .tc) α := do
  Prog.lift (.waitDma2 (cellOf s q hs hq) (mSrc b q hb hq) (mDst s q hs hq) ((View.wordExact_bits rfl).reshape _ _)
    ((View.wordExact_bits rfl).reshape _ _))
  k

/-! ## Rectangles -/

/-- Block `c` of 128 columns of slot `s`. -/
abbrev rChunk (s c : ℕ) (hs : s < 2) (hc : c < 48) : Rect S2x32x6144 :=
  Rect.unit (s := S2x32x6144) ![s, 0, 128 * c] S1x32x128.size (inb3 (by omega) (by omega) (by omega))
/-- Slot `s` of the pre-activations or of the codes. -/
abbrev rSlot (s : ℕ) (hs : s < 2) : Rect S2x32x6144 :=
  Rect.unit (s := S2x32x6144) ![s, 0, 0] S1x32x6144.size (inb3 (by omega) (by omega) (by omega))
/-- A quarter of the columns of slot `s`. -/
abbrev rQuarter (s c : ℕ) (hs : s < 2) (hc : c + 1536 ≤ 6144) : Rect S2x32x6144 :=
  Rect.unit (s := S2x32x6144) ![s, 0, c] S1x32x1536.size (inb3 (by omega) (by omega) (by omega))
/-- Slot `s` of the thresholds; -/
abbrev rThr (s : ℕ) (hs : s < 2) : Rect S2x32x128 :=
  Rect.unit (s := S2x32x128) ![s, 0, 0] S1x32x128.size (inb3 (by omega) (by omega) (by omega))
/-- its first column. -/
abbrev rThr1 (s : ℕ) (hs : s < 2) : Rect S2x32x128 :=
  Rect.unit (s := S2x32x128) ![s, 0, 0] S1x32x1.size (inb3 (by omega) (by omega) (by omega))
/-- Column block `k` of a reconstruction. -/
abbrev rAcc (k : ℕ) (hk : k < 3) : Rect S3x32x192 :=
  Rect.unit (s := S3x32x192) ![k, 0, 0] S1x32x192.size (inb3 (by omega) (by omega) (by omega))
/-- Slot `s` of the weight buffer. -/
abbrev rBuf (s : ℕ) (hs : s < 2) : Rect S2x6144x768 :=
  Rect.unit (s := S2x6144x768) ![s, 0, 0] S1x6144x768.size (inb3 (by omega) (by omega) (by omega))
/-- Stack `b` of the inputs; -/
abbrev rX (b : ℕ) (hb : b < 12) : Rect S12x32x768 :=
  Rect.unit (s := S12x32x768) ![b, 0, 0] S1x32x768.size (inb3 (by omega) (by omega) (by omega))
/-- of the decoder's bias; -/
abbrev rBd (b : ℕ) (hb : b < 12) : Rect S12x1x768 :=
  Rect.unit (s := S12x1x768) ![b, 0, 0] S1x1x768.size (inb3 (by omega) (by omega) (by omega))
/-- of the encoder's. -/
abbrev rBe (b : ℕ) (hb : b < 12) : Rect S12x1x6144 :=
  Rect.unit (s := S12x1x6144) ![b, 0, 0] S1x1x6144.size (inb3 (by omega) (by omega) (by omega))
/-- The blocks of the windows, whole. -/
abbrev rWd : Rect S1x192x6144 := Rect.unit (s := S1x192x6144) ![0, 0, 0] S1x192x6144.size inb_S1x192x6144_S1x192x6144_0_0_0
abbrev rUo : Rect S1x32x1536 := Rect.unit (s := S1x32x1536) ![0, 0, 0] S1x32x1536.size inb_S1x32x1536_S1x32x1536_0_0_0
abbrev rXo : Rect S1x32x768 := Rect.unit (s := S1x32x768) ![0, 0, 0] S1x32x768.size inb_S1x32x768_S1x32x768_0_0_0
abbrev rLo : Rect S1x1x1 := Rect.unit (s := S1x1x1) ![0, 0, 0] S1x1x1.size inb_S1x1x1_S1x1x1_0_0_0

/-- Read `n` blocks of slot `s`, in the order `ord`, and go on with all of them. -/
def fetches {α : Type} (s : ℕ) (hs : s < 2) (ord : ℕ → ℕ) (ho : ∀ k, k < 48 → ord k < 48) : (n k : ℕ) → n + k ≤ 48 → (ℕ → Vec F S1x32x128 .f32) →
    ((ℕ → Vec F S1x32x128 .f32) → Prog (TpuEff nD τ sig (Elt F) Λ₀ .tc) α) → Prog (TpuEff nD τ sig (Elt F) Λ₀ .tc) α
  | 0, _, _, v, K => K v
  | n + 1, k, h, v, K => do
    let x : Vec F S1x32x128 .f32 ← Prog.lift (.load mPre (rChunk s (ord k) hs (ho k (by omega))).toLoadRect (View.loadsAt_vmem h_S1x32x128))
    fetches s hs ord ho n (k + 1) (by omega) (fun c => bif c == ord k then x else v c) K

/-- The two lists are fed in turn: block `k / 2` of the first half, then of the second. -/
def inTurn (k : ℕ) : ℕ := bif k % 2 == 0 then k / 2 else 24 + k / 2
theorem inTurn_lt (k : ℕ) (h : k < 48) : inTurn k < 48 := by unfold inTurn; cases (k % 2 == 0) <;> simp <;> omega

/-- No blocks read yet. -/
def noBlocks : ℕ → Vec F S1x32x128 .f32 := fun _ => shapeCast S1x32x128 low shapeCasts_S32x128_S1x32x128

variable {α : Type}

/-! ## The seven steps -/

/-- The first stack's four transfers start at the first point. -/
def stepFirst (_ : k0_cond1 i = 1#1) (rest : Prog (TpuEff nD τ sig (Elt F) Λ₀ .tc) α) : Prog (TpuEff nD τ sig (Elt F) Λ₀ .tc) α :=
  issue 0 0 0 (by decide) (by decide) (by decide) <| issue 0 0 1 (by decide) (by decide) (by decide) <|
  issue 0 0 2 (by decide) (by decide) (by decide) <| issue 0 0 3 (by decide) (by decide) (by decide) rest

/-- One quarter of the next stack starts at each point. -/
def stepNext (h : k0_cond2 i = 1#1) (rest : Prog (TpuEff nD τ sig (Elt F) Λ₀ .tc) α) : Prog (TpuEff nD τ sig (Elt F) Λ₀ .tc) α :=
  guard (k0_cond3 i = 1#1) (fun _ r => issue (wOther i) (wNext i) 0 (wOther_lt i) (wNext_lt i h) (by decide) r) <|
  guard (k0_cond4 i = 1#1) (fun _ r => issue (wOther i) (wNext i) 1 (wOther_lt i) (wNext_lt i h) (by decide) r) <|
  guard (k0_cond5 i = 1#1) (fun _ r => issue (wOther i) (wNext i) 2 (wOther_lt i) (wNext_lt i h) (by decide) r) <|
  guard (k0_cond6 i = 1#1) (fun _ r => issue (wOther i) (wNext i) 3 (wOther_lt i) (wNext_lt i h) (by decide) r) rest

variable (m2 : Memref sig .tc .vmem S12x32x768 .f32) (m3 : Memref sig .tc .vmem S12x1x768 .f32) (m4 : Memref sig .tc .vmem S12x1x6144 .f32)
  (m6 : Memref sig .tc .vmem S1x192x6144 .f32) (m7 : Memref sig .tc .vmem S1x32x1536 .f32) (m8 : Memref sig .tc .vmem S1x32x768 .f32)
  (m9 : Memref sig .tc .smem S1x1x1 .f32)

/-- The stack's pre-activations. -/
def stepEnc (_ : k0_cond7 i = 1#1) (rest : Prog (TpuEff nD τ sig (Elt F) Λ₀ .tc) α) : Prog (TpuEff nD τ sig (Elt F) Λ₀ .tc) α :=
  await (wEncSlot i) (wEnc i) 0 (wEncSlot_lt i) (wEnc_lt i) (by decide) <|
  await (wEncSlot i) (wEnc i) 1 (wEncSlot_lt i) (wEnc_lt i) (by decide) <|
  await (wEncSlot i) (wEnc i) 2 (wEncSlot_lt i) (wEnc_lt i) (by decide) <|
  await (wEncSlot i) (wEnc i) 3 (wEncSlot_lt i) (wEnc_lt i) (by decide) <| do
  let x : Vec F S1x32x768 .f32 ← Prog.lift (.load m2 (rX (wEnc i) (wEnc_lt i)).toLoadRect (View.loadsAt_vmem h_S1x32x768))
  let bd : Vec F S1x1x768 .f32 ← Prog.lift (.load m3 (rBd (wEnc i) (wEnc_lt i)).toLoadRect (View.loadsAt_vmem h_S1x1x768))
  let w : Vec F S1x6144x768 .f32 ← Prog.lift (.load mBuf (rBuf (wSlot i) (wSlot_lt i)).toLoadRect (View.loadsAt_vmem h_S1x6144x768))
  let be : Vec F S1x1x6144 .f32 ← Prog.lift (.load m4 (rBe (wEnc i) (wEnc_lt i)).toLoadRect (View.loadsAt_vmem h_S1x1x6144))
  let _ : Vec F S1x32x6144 .f32 ← Prog.lift (.load mPre (rSlot (wSlot i) (wSlot_lt i)).toLoadRect (View.loadsAt_vmem h_S1x32x6144))
  Prog.lift (.store mPre (rSlot (wSlot i) (wSlot_lt i)) (k0_pay941 x bd w be) Finset.univ (View.stores_vmem_bits_univ h_S1x32x6144 rfl) (.inl rfl))
  rest

/-- Its thresholds by the lists. -/
def stepThr (_ : k0_cond8 i = 1#1) (rest : Prog (TpuEff nD τ sig (Elt F) Λ₀ .tc) α) : Prog (TpuEff nD τ sig (Elt F) Λ₀ .tc) α :=
  fetches (wSlot i) (wSlot_lt i) inTurn inTurn_lt 48 0 (by decide) noBlocks fun c => do
  let _ : Vec F S1x32x128 .f32 ← Prog.lift (.load mThr (rThr (wSlot i) (wSlot_lt i)).toLoadRect (View.loadsAt_vmem h_S1x32x128))
  Prog.lift (.store mThr (rThr (wSlot i) (wSlot_lt i)) (spread (quick c)) Finset.univ (View.stores_vmem_bits_univ h_S1x32x128 rfl) (.inl rfl))
  rest

/-- The slower search's loop issues nothing: it gives the row values left after 31 rounds. -/
theorem loop_dropped (h : k0_cond9 i = 1#1) (v : FVec F S32x6144 .f32) (K : FVec F S32x6144 .f32 → Prog (TpuEff nD τ sig (Elt F) Λ₀ .tc) α) :
    ((Scf.Loop.for k0_t1_loop (k0_t1_ok i h) v (fun _ x => pure (k0_pay944 x)) : Prog (TpuEff nD τ sig (Elt F) Λ₀ .tc) _) >>= K)
      = K (dropped v 31) := by
  refine (Scf.for_pure_bind _ _ _ _ v _ (fun _ x => k0_pay944 x) (fun _ _ => rfl) K).trans ?_
  rw [Scf.fold_eq]
  rfl

/-- The slower search. -/
def stepSlow (h : k0_cond9 i = 1#1) (rest : Prog (TpuEff nD τ sig (Elt F) Λ₀ .tc) α) : Prog (TpuEff nD τ sig (Elt F) Λ₀ .tc) α := do
  let p : Vec F S1x32x6144 .f32 ← Prog.lift (.load mPre (rSlot (wSlot i) (wSlot_lt i)).toLoadRect (View.loadsAt_vmem h_S1x32x6144))
  let y : FVec F S32x6144 .f32 ← Scf.Loop.for k0_t1_loop (k0_t1_ok i h) (k0_pay943 p) (fun _ x => pure (k0_pay944 x))
  let _ : Vec F S1x32x128 .f32 ← Prog.lift (.load mThr (rThr (wSlot i) (wSlot_lt i)).toLoadRect (View.loadsAt_vmem h_S1x32x128))
  Prog.lift (.store mThr (rThr (wSlot i) (wSlot_lt i)) (k0_pay945 y) Finset.univ
    (View.stores_vmem_bits_univ h_S1x32x128 rfl) (.inl rfl))
  rest

/-- The check of the thresholds. -/
def stepCheck (h : k0_cond9 i = 1#1) (rest : Prog (TpuEff nD τ sig (Elt F) Λ₀ .tc) α) : Prog (TpuEff nD τ sig (Elt F) Λ₀ .tc) α := do
  let y : Vec F S1x32x1 .f32 ← Prog.lift (.load mThr (rThr1 (wSlot i) (wSlot_lt i)).toLoadRect (View.loadsAt_vmem h_S1x32x1))
  fetches (wSlot i) (wSlot_lt i) (fun k => k) (fun _ h => h) 48 0 (by decide) noBlocks fun c =>
    guard (bad (column y) c = 1#1) (fun _ r => stepSlow i h r) rest

/-- The stack's codes. -/
def stepCode (_ : k0_cond11 i = 1#1) (rest : Prog (TpuEff nD τ sig (Elt F) Λ₀ .tc) α) : Prog (TpuEff nD τ sig (Elt F) Λ₀ .tc) α := do
  let y : Vec F S1x32x1 .f32 ← Prog.lift (.load mThr (rThr1 (wSlot i) (wSlot_lt i)).toLoadRect (View.loadsAt_vmem h_S1x32x1))
  let p : Vec F S1x32x6144 .f32 ← Prog.lift (.load mPre (rSlot (wSlot i) (wSlot_lt i)).toLoadRect (View.loadsAt_vmem h_S1x32x6144))
  let _ : Vec F S1x32x6144 .f32 ← Prog.lift (.load mU (rSlot (wSlot i) (wSlot_lt i)).toLoadRect (View.loadsAt_vmem h_S1x32x6144))
  Prog.lift (.store mU (rSlot (wSlot i) (wSlot_lt i)) (k0_pay1 y p) Finset.univ (View.stores_vmem_bits_univ h_S1x32x6144 rfl) (.inl rfl))
  rest

/-- The previous stack's column block kept. -/
def stepKeep (u : Vec F S1x32x6144 .f32) (w : Vec F S1x192x6144 .f32) (h : k0_cond13 i = 1#1) (rest : Prog (TpuEff nD τ sig (Elt F) Λ₀ .tc) α) :
    Prog (TpuEff nD τ sig (Elt F) Λ₀ .tc) α := do
  let _ : Vec F S1x32x192 .f32 ← Prog.lift (.load mAcc (rAcc (wQuarter i) (wQuarter_lt i h)).toLoadRect (View.loadsAt_vmem h_S1x32x192))
  Prog.lift (.store mAcc (rAcc (wQuarter i) (wQuarter_lt i h)) (k0_pay4 u w) Finset.univ (View.stores_vmem_bits_univ h_S1x32x192 rfl) (.inl rfl))
  rest

/-- Its reconstruction and its loss. -/
def stepOut (u : Vec F S1x32x6144 .f32) (w : Vec F S1x192x6144 .f32) (_ : k0_cond14 i = 1#1) (rest : Prog (TpuEff nD τ sig (Elt F) Λ₀ .tc) α) :
    Prog (TpuEff nD τ sig (Elt F) Λ₀ .tc) α := do
  let c0 : Vec F S1x32x192 .f32 ← Prog.lift (.load mAcc (rAcc 0 (by decide)).toLoadRect (View.loadsAt_vmem h_S1x32x192))
  let c1 : Vec F S1x32x192 .f32 ← Prog.lift (.load mAcc (rAcc 1 (by decide)).toLoadRect (View.loadsAt_vmem h_S1x32x192))
  let c2 : Vec F S1x32x192 .f32 ← Prog.lift (.load mAcc (rAcc 2 (by decide)).toLoadRect (View.loadsAt_vmem h_S1x32x192))
  let bd : Vec F S1x1x768 .f32 ← Prog.lift (.load m3 (rBd (wDec i) (wDec_lt i)).toLoadRect (View.loadsAt_vmem h_S1x1x768))
  let _ : Vec F S1x32x768 .f32 ← Prog.lift (.load m8 rXo.toLoadRect (View.loadsAt_vmem h_S1x32x768))
  Prog.lift (.store m8 rXo (k0_pay6 u w c0 c1 c2 bd) Finset.univ (View.stores_vmem_bits_univ h_S1x32x768 rfl) (.inl rfl))
  let x : Vec F S1x32x768 .f32 ← Prog.lift (.load m2 (rX (wDec i) (wDec_lt i)).toLoadRect (View.loadsAt_vmem h_S1x32x768))
  let _ : Elt F .f32 ← smemLoad m9 rLo numel1_S1x1x1 rfl
  Prog.lift (.store m9 rLo (fun _ => k0_pay7 u w c0 c1 c2 bd x) Finset.univ (View.stores_smem_one rfl numel1_S1x1x1) (.inl rfl))
  rest

/-- The previous stack decoded. -/
def stepDec (_ : k0_cond12 i = 1#1) (rest : Prog (TpuEff nD τ sig (Elt F) Λ₀ .tc) α) : Prog (TpuEff nD τ sig (Elt F) Λ₀ .tc) α := do
  let uq : Vec F S1x32x1536 .f32 ← Prog.lift (.load mU (rQuarter (wOther i) (wCol i) (wOther_lt i) (wCol_le i)).toLoadRect (View.loadsAt_vmem h_S1x32x1536))
  let _ : Vec F S1x32x1536 .f32 ← Prog.lift (.load m7 rUo.toLoadRect (View.loadsAt_vmem h_S1x32x1536))
  Prog.lift (.store m7 rUo (k0_pay2 uq) Finset.univ (View.stores_vmem_bits_univ h_S1x32x1536 rfl) (.inl rfl))
  let u : Vec F S1x32x6144 .f32 ← Prog.lift (.load mU (rSlot (wOther i) (wOther_lt i)).toLoadRect (View.loadsAt_vmem h_S1x32x6144))
  let w : Vec F S1x192x6144 .f32 ← Prog.lift (.load m6 rWd.toLoadRect (View.loadsAt_vmem h_S1x192x6144))
  guard (k0_cond13 i = 1#1) (stepKeep i u w) (guard (k0_cond14 i = 1#1) (stepOut i m2 m3 m8 m9 u w) rest)

/-- The first five steps, with the words the printed function hands on. -/
def bodyA : Prog (TpuEff nD τ sig (Elt F) Λ₀ .tc) (Σ' (arg0 : BitVec 32) (arg1 : BitVec 32) (v2 : BitVec 32) (v3 : BitVec 32) (v5 : BitVec 32) (v29 : BitVec 1), BitVec 1) :=
  guard (k0_cond1 i = 1#1) (stepFirst i) <| guard (k0_cond2 i = 1#1) (stepNext i) <| guard (k0_cond7 i = 1#1) (stepEnc i m2 m3 m4) <|
  guard (k0_cond8 i = 1#1) (stepThr i) <| guard (k0_cond9 i = 1#1) (stepCheck i) <|
  pure ⟨a0 i, a1 i, Scalar.maxsi (Scalar.subi (a0 i) 1#32) 0#32, Scalar.remsi (a0 i) 2#32, Scalar.remsi (Scalar.addi (a0 i) 1#32) 2#32,
    Scalar.cmpi .slt (a0 i) 12#32, Scalar.cmpi .eq (a1 i) 3#32⟩

/-- The last two. -/
def bodyB : Prog (TpuEff nD τ sig (Elt F) Λ₀ .tc) PUnit :=
  guard (k0_cond11 i = 1#1) (stepCode i) <| guard (k0_cond12 i = 1#1) (stepDec i m2 m3 m6 m7 m8 m9) <| pure ⟨⟩

/-- The body. -/
def body : Prog (TpuEff nD τ sig (Elt F) Λ₀ .tc) PUnit := bodyA i m2 m3 m4 >>= fun _ => bodyB i m2 m3 m6 m7 m8 m9

theorem body_eq (h2 h3 h4 h5 h6 h7 h8 h9 h10 h11 h12 h13 h14) :
    cc0__fused_kernel (F := F) i m2 h2 m3 h3 m4 h4 mW h5 m6 h6 m7 h7 m8 h8 m9 h9 mPre h10 mThr h11 mAcc h12 mU h13 mBuf h14 cc0_scratch5
      = body i m2 m3 m4 m6 m7 m8 m9 := by
  sl_kernel_rfl

end Cert.KernelIdeal.Prf
-- ==== Proof.Ring.lean ====
module

public import proofs.«01_k».proof.Proof.Program
public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.WordCmp

@[expose] public section

set_option maxRecDepth 65536

noncomputable section

namespace Cert.KernelIdeal.Prf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-! # The weight buffer's transfers

Eight transfers at most are in flight, one for every slot and quarter of the weight buffer. A cell of the ring is one
slot's quarter: its counter, its part of the buffer, and its share of the weights. -/

/-- The weights, as an element of memory. -/
abbrev lW (c : Dev nD) : Loc nD τ sig := mW.view.loc (c : Thread nD τ)
/-- The weight buffer. -/
abbrev lBuf (c : Dev nD) : Loc nD τ sig := mBuf.view.loc (c : Thread nD τ)

/-- The part of the weight buffer a cell fills, as elements. -/
def piece (c : Dev nD) (s : Fin 2) (q : Fin 4) : Finset (Idx (lBuf c)) := (mDst s q s.2 q.2).view.set
/-- The part of the weights a transfer reads. -/
def part (c : Dev nD) (b : Fin 12) (q : Fin 4) : Finset (Idx (lW c)) := (mSrc b q b.2 q.2).view.set
/-- A slot of the weight buffer. -/
def slotSet (c : Dev nD) (s : Fin 2) : Finset (Idx (lBuf c)) := (rBuf s s.2).set

theorem mem_piece (c : Dev nD) (s : Fin 2) (q : Fin 4) (i : S2x6144x768.Idx) :
    i ∈ (piece c s q : Finset S2x6144x768.Idx) ↔ (i 0).val = s.val ∧ 1536 * q.val ≤ (i 1).val ∧ (i 1).val < 1536 * q.val + 1536 := by
  have h : (piece c s q : Finset S2x6144x768.Idx) = (dstRect s q s.2 q.2).set := by
    unfold piece
    exact (View.set_reshape _ _).trans ((View.set_slice _ _).trans (by exact Finset.map_refl))
  rw [h, Rect.mem_set_unit]
  have h2 := (i 2).isLt
  constructor
  · intro h
    have h0 := h 0
    have h1 := h 1
    change s.val ≤ (i 0).val ∧ (i 0).val < s.val + 1 at h0
    change 1536 * q.val ≤ (i 1).val ∧ (i 1).val < 1536 * q.val + 1536 at h1
    omega
  · rintro ⟨h0, h1, h1'⟩ k
    match k with
    | 0 => change s.val ≤ (i 0).val ∧ (i 0).val < s.val + 1; omega
    | 1 => exact ⟨h1, h1'⟩
    | 2 => exact ⟨Nat.zero_le _, lt_of_lt_of_eq h2 (Nat.zero_add _).symm⟩

theorem mem_slotSet (c : Dev nD) (s : Fin 2) (i : S2x6144x768.Idx) :
    i ∈ (slotSet c s : Finset S2x6144x768.Idx) ↔ (i 0).val = s.val := by
  unfold slotSet
  rw [Rect.mem_set_unit]
  have h2 := (i 2).isLt
  have h1 := (i 1).isLt
  constructor
  · intro h
    have h0 := h 0
    change s.val ≤ (i 0).val ∧ (i 0).val < s.val + 1 at h0
    omega
  · rintro h0 k
    match k with
    | 0 => change s.val ≤ (i 0).val ∧ (i 0).val < s.val + 1; omega
    | 1 => exact ⟨Nat.zero_le _, lt_of_lt_of_eq h1 (Nat.zero_add _).symm⟩
    | 2 => exact ⟨Nat.zero_le _, lt_of_lt_of_eq h2 (Nat.zero_add _).symm⟩

theorem piece_disjoint (c : Dev nD) (s : Fin 2) (q q' : Fin 4) (h : q ≠ q') : Disjoint (piece c s q) (piece c s q') := by
  refine Finset.disjoint_left.mpr fun i hi hi' => h (Fin.ext ?_)
  have a := (mem_piece c s q i).mp hi
  have b := (mem_piece c s q' i).mp hi'
  omega

theorem slot_disjoint (c : Dev nD) (s s' : Fin 2) (h : s ≠ s') : Disjoint (slotSet c s) (slotSet c s') := by
  refine Finset.disjoint_left.mpr fun i hi hi' => h (Fin.ext ?_)
  have a := (mem_slotSet c s i).mp hi
  have b := (mem_slotSet c s' i).mp hi'
  omega

theorem slot_cover (c : Dev nD) : Finset.univ.biUnion (slotSet c) = Finset.univ := by
  refine Finset.eq_univ_iff_forall.mpr fun i => Finset.mem_biUnion.mpr ?_
  have hi : ((i : S2x6144x768.Idx) 0).val < 2 := ((i : S2x6144x768.Idx) 0).isLt
  exact ⟨⟨((i : S2x6144x768.Idx) 0).val, hi⟩, Finset.mem_univ _, (mem_slotSet c _ i).mpr rfl⟩

theorem piece_cover (c : Dev nD) (s : Fin 2) : Finset.univ.biUnion (piece c s) = slotSet c s := by
  ext i
  rw [Finset.mem_biUnion]
  have hi : ((i : S2x6144x768.Idx) 1).val < 6144 := ((i : S2x6144x768.Idx) 1).isLt
  constructor
  · rintro ⟨q, -, h⟩
    exact (mem_slotSet c s i).mpr ((mem_piece c s q i).mp h).1
  · intro h
    refine ⟨⟨((i : S2x6144x768.Idx) 1).val / 1536, by omega⟩, Finset.mem_univ _, (mem_piece c s _ i).mpr ⟨(mem_slotSet c s i).mp h, ?_, ?_⟩⟩
    · change 1536 * (((i : S2x6144x768.Idx) 1).val / 1536) ≤ _; omega
    · change _ < 1536 * (((i : S2x6144x768.Idx) 1).val / 1536) + 1536; omega

/-- The weights' row a row of the weight buffer is filled from. -/
def wRow (b : Fin 12) (i : S2x6144x768.Idx) : S12x6144x768.Idx := fun k => match k with
  | ⟨0, _⟩ => b
  | ⟨1, _⟩ => i 1
  | ⟨2, _⟩ => i 2

/-- The weight buffer filled from stack `b` in both slots. -/
def wbuf (c : Dev nD) (fW : Buf (Elt F) (lW c)) (b : Fin 12) : Buf (Elt F) (lBuf c) :=
  fun i : S2x6144x768.Idx => (fW : S12x6144x768.Idx → Elt F .f32) (wRow b i)

theorem src_emb (s : Fin 2) (b : Fin 12) (q : Fin 4) (y : S1536x768.Idx) :
    ((mSrc b q b.2 q.2).view.emb y : S12x6144x768.Idx) = wRow b ((mDst s q s.2 q.2).view.emb y : S2x6144x768.Idx) := by
  funext k
  match k with
  | ⟨0, _⟩ =>
    refine Fin.ext ?_
    have hz : ∀ z : S1x1536x768.Idx, b.val + 1 * (z 0).val = b.val := fun z => by
      have := (z 0).isLt
      change (z 0).val < 1 at this
      omega
    exact hz (Shape.reshapeEquiv _ y)
  | ⟨1, _⟩ => rfl
  | ⟨2, _⟩ => rfl

/-- What a transfer leaves where it writes. -/
theorem landed (c : Dev nD) (s : Fin 2) (b : Fin 12) (q : Fin 4) (fW : Buf (Elt F) (lW c)) (fd : Buf (Elt F) (lBuf c)) :
    ∀ i ∈ piece c s q, (mDst s q s.2 q.2).view.write (Elt F) fd (ReadAs.same.apply ((mSrc b q b.2 q.2).view.read (Elt F) fW)) Finset.univ i
      = wbuf c fW b i := by
  intro i hi
  obtain ⟨y, -, rfl⟩ := Finset.mem_map.mp hi
  exact (View.write_emb_of_mem _ _ (Finset.mem_univ y)).trans (congrArg (fW : S12x6144x768.Idx → Elt F .f32) (src_emb s b q y))

/-- What a cell of the ring is doing: nothing, with anything in its part of the buffer; a transfer of a stack's quarter
is in flight; that quarter has landed. -/
inductive CS where
  | any
  | fly (b : Fin 12)
  | full (b : Fin 12)
deriving DecidableEq

/-- A cell's counter. -/
abbrev sem (s : Fin 2) (q : Fin 4) : SemLoc sig := .dma (cellOf s q s.2 q.2)
/-- A slot's share of the weights, -/
def slotShare (s : Fin 2) : PosShare TreeShare := Transfers.dealOf fullShare Finset.univ s
/-- and a cell's. -/
def share (s : Fin 2) (q : Fin 4) : PosShare TreeShare := Transfers.dealOf (slotShare s) Finset.univ q
/-- What a transfer adds to its counter. -/
abbrev credit (s : Fin 2) (q : Fin 4) : ℕ := (mDst s q s.2 q.2).view.dmaCredit

theorem credit_pos (s : Fin 2) (q : Fin 4) : 0 < credit s q :=
  show 0 < (mDst 0 0 (by decide) (by decide)).view.dmaCredit by decide

variable (c : Dev nD) (fW : Buf (Elt F) (lW c))

theorem sep_eq {P Q : sProp 𝕄} (h : P ⊢ Q) (h' : Q ⊢ P) : P = Q := Idealize.SL.BI.Entails.antisymm h h'

theorem bigSep_out {I : Type} [DecidableEq I] {S : Finset I} {i : I} (h : i ∈ S) {Φ : I → sProp 𝕄} :
    bigSep S Φ = iprop(Φ i ∗ bigSep (S.erase i) Φ) := bigSep_erase h

/-- A cell at rest, its part of the buffer held at `f`. -/
def rest (s : Fin 2) (q : Fin 4) (f : Buf (Elt F) (lBuf c)) : sProp 𝕄 :=
  iprop(semVal ((c : Thread nD τ), sem s q) 0 ∗ (lBuf c ↦[piece c s q]{fullShare} f) ∗ (lW c ↦{share s q} fW))

/-- A cell of the ring. -/
def Cell (s : Fin 2) (q : Fin 4) : CS → sProp 𝕄
  | .any => iprop(∃ f, rest c fW s q f)
  | .fly b => iprop(Transfers.Flight (countersEmb (U := Pipeline.UD sig nD τ)) (c : Thread nD τ) (sem s q) () (credit s q)
        iprop((lBuf c ↦[piece c s q]{fullShare} wbuf c fW b) ∗ (lW c ↦[part c b q]{share s q} fW))
      ∗ (lW c ↦[Finset.univ \ part c b q]{share s q} fW))
  | .full b => rest c fW s q (wbuf c fW b)

theorem Cell_forget (s : Fin 2) (q : Fin 4) (b : Fin 12) : Cell c fW s q (.full b) ⊢ Cell c fW s q .any := by
  unfold Cell; iintro H; iexists _; iexact H

theorem Cell_any (s : Fin 2) (q : Fin 4) (f : Buf (Elt F) (lBuf c)) : rest c fW s q f ⊢ Cell c fW s q .any := by
  unfold Cell; iintro H; iexists _; iexact H

theorem Cell_parts (s : Fin 2) (q : Fin 4) : Cell c fW s q .any
    ⊢ iprop(semVal ((c : Thread nD τ), sem s q) 0 ∗ (∃ f, lBuf c ↦[piece c s q]{fullShare} f) ∗ (lW c ↦{share s q} fW)) := by
  unfold Cell rest
  iintro ⟨%f, H1, H2, H3⟩
  isplitl [H1]; · iexact H1
  isplitl [H2]; · iexists _; iexact H2
  iexact H3

/-- The ring: its eight cells. -/
def Ring (st : Fin 2 → Fin 4 → CS) : sProp 𝕄 :=
  bigSep Finset.univ fun s => bigSep Finset.univ fun q => Cell c fW s q (st s q)

/-- One cell's state changed. -/
def setCell (st : Fin 2 → Fin 4 → CS) (s : Fin 2) (q : Fin 4) (x : CS) : Fin 2 → Fin 4 → CS :=
  fun s' q' => if s' = s ∧ q' = q then x else st s' q'

/-- The ring without one of its cells. -/
def RingBut (st : Fin 2 → Fin 4 → CS) (s : Fin 2) (q : Fin 4) : sProp 𝕄 :=
  iprop((bigSep (Finset.univ.erase q) fun q' => Cell c fW s q' (st s q'))
    ∗ bigSep (Finset.univ.erase s) fun s' => bigSep Finset.univ fun q' => Cell c fW s' q' (st s' q'))

theorem Ring_take (st : Fin 2 → Fin 4 → CS) (s : Fin 2) (q : Fin 4) :
    Ring c fW st = iprop(Cell c fW s q (st s q) ∗ RingBut c fW st s q) := by
  unfold Ring RingBut
  rw [bigSep_out (Finset.mem_univ s), bigSep_out (Finset.mem_univ q)]
  refine sep_eq ?_ ?_
  · iintro ⟨⟨H1, H2⟩, H3⟩; isplitl [H1]; · iexact H1
    isplitl [H2] <;> iassumption
  · iintro ⟨H1, H2, H3⟩; isplitr [H3]
    · isplitl [H1] <;> iassumption
    iexact H3

theorem RingBut_set (st : Fin 2 → Fin 4 → CS) (s : Fin 2) (q : Fin 4) (x : CS) :
    RingBut c fW st s q = RingBut c fW (setCell st s q x) s q := by
  unfold RingBut
  congr 1
  · exact bigSep_congr fun q' hq' => by rw [setCell, if_neg fun h => (Finset.mem_erase.mp hq').1 h.2]
  · exact bigSep_congr fun s' hs' => bigSep_congr fun q' _ => by rw [setCell, if_neg fun h => (Finset.mem_erase.mp hs').1 h.1]

theorem Ring_put (st : Fin 2 → Fin 4 → CS) (s : Fin 2) (q : Fin 4) (x : CS) :
    iprop(Cell c fW s q x ∗ RingBut c fW st s q) = Ring c fW (setCell st s q x) := by
  rw [Ring_take c fW _ s q, ← RingBut_set, setCell, if_pos ⟨rfl, rfl⟩]

/-- Starting a transfer into a cell at rest. -/
theorem wp_issue {α : Type} (s : Fin 2) (b : Fin 12) (q : Fin 4) (st : Fin 2 → Fin 4 → CS) (hst : st s q = .any)
    (k : Prog (TpuEff nD τ sig (Elt F) Λ₀ .tc) α) (Q : α → sProp 𝕄) :
    Ring c fW st ⊢ iprop((Ring c fW (setCell st s q (.fly b)) -∗ wp frame (wpE (defs₀ (F := F)) Variants.none (c : Thread nD τ) none) Set.univ k Q)
      -∗ wp frame (wpE (defs₀ (F := F)) Variants.none (c : Thread nD τ) none) Set.univ (issue s b q s.2 b.2 q.2 k) Q) := by
  rw [Ring_take c fW st s q, hst, ← Ring_put]
  unfold issue Cell rest
  iintro ⟨⟨%f, Hv, Hp, HW⟩, HR⟩ Hk
  ihave ⟨HW1, HW2⟩ : iprop((lW c ↦[part c b q]{share s q} fW) ∗ (lW c ↦[Finset.univ \ part c b q]{share s q} fW)) $$ [HW]
  · iapply (pointsTo_union (Finset.disjoint_sdiff (s := part c b q) (t := Finset.univ))).1
    rw [Finset.union_sdiff_of_subset (Finset.subset_univ _)]; iexact HW
  iapply (Transfers.wp_dmaLocal (countersEmb (U := Pipeline.UD sig nD τ)) Variants.none (c : Thread nD τ) none () (credit s q) rfl (credit_pos s q) (Finset.Subset.refl (piece c s q))
    (src := mSrc b q b.2 q.2) (dst := mDst s q s.2 q.2) (via := ReadAs.same) (fs := fW) (fd := f)) $$ [Hv Hp HW1]
  · isplitl [HW1]; · iexact HW1
    isplitl [Hp]; · iexact Hp
    iexact Hv
  iintro HF
  iapply Hk
  isplitr [HR]
  · isplitl [HF]
    · iapply (Transfers.Flight_mono (countersEmb (U := Pipeline.UD sig nD τ)) (c : Thread nD τ) ?_) $$ HF
      rw [pointsTo_congr (landed c s b q fW f)]
      exact .rfl
    iexact HW2
  iexact HR

/-- Waiting for a cell's transfer. -/
theorem wp_await {α : Type} (s : Fin 2) (b : Fin 12) (q : Fin 4) (st : Fin 2 → Fin 4 → CS) (hst : st s q = .fly b)
    (k : Prog (TpuEff nD τ sig (Elt F) Λ₀ .tc) α) (Q : α → sProp 𝕄) :
    iprop(Ring c fW st ∗ ∃ W, owes (c : Thread nD τ) 0 W)
      ⊢ iprop((iprop(Ring c fW (setCell st s q (.full b)) ∗ ∃ W, owes (c : Thread nD τ) 0 W)
          -∗ wp frame (wpE (defs₀ (F := F)) Variants.none (c : Thread nD τ) none) Set.univ k Q)
      -∗ wp frame (wpE (defs₀ (F := F)) Variants.none (c : Thread nD τ) none) Set.univ (await s b q s.2 b.2 q.2 k) Q) := by
  rw [Ring_take c fW st s q, hst, ← Ring_put]
  unfold await Cell rest
  iintro ⟨⟨⟨HF, HW2⟩, HR⟩, ⟨%W, HO⟩⟩ Hk
  iapply (Transfers.wp_waitLocal (countersEmb (U := Pipeline.UD sig nD τ)) Variants.none (c : Thread nD τ) none () (N := credit s q) rfl) $$ [HF HO]
  · isplitl [HF]; · iexact HF
    iexact HO
  iintro ⟨⟨Hp, HW1⟩, Hv, HO⟩
  iapply Hk
  isplitr [HO]
  · isplitr [HR]
    · isplitl [Hv]; · iexact Hv
      isplitl [Hp]; · iexact Hp
      ihave HW : iprop(lW c ↦[part c b q ∪ (Finset.univ \ part c b q)]{share s q} fW) $$ [HW1 HW2]
      · iapply (pointsTo_union (Finset.disjoint_sdiff (s := part c b q) (t := Finset.univ))).2
        isplitl [HW1] <;> iassumption
      rw [Finset.union_sdiff_of_subset (Finset.subset_univ _)]
      iexact HW
    iexact HR
  iexists _; iexact HO

/-- The ring without one of its slots. -/
def SlotBut (st : Fin 2 → Fin 4 → CS) (s : Fin 2) : sProp 𝕄 :=
  bigSep (Finset.univ.erase s) fun s' => bigSep Finset.univ fun q' => Cell c fW s' q' (st s' q')

/-- A filled slot: its counters, its share of the weights, and the slot whole. -/
theorem Ring_slot (st : Fin 2 → Fin 4 → CS) (s : Fin 2) (b : Fin 12) (h : ∀ q, st s q = .full b) :
    Ring c fW st = iprop((((bigSep Finset.univ fun q => semVal ((c : Thread nD τ), sem s q) 0) ∗ (lW c ↦{slotShare s} fW))
      ∗ (lBuf c ↦[slotSet c s]{fullShare} wbuf c fW b)) ∗ SlotBut c fW st s) := by
  unfold Ring SlotBut
  rw [bigSep_out (Finset.mem_univ s)]
  congr 1
  rw [bigSep_congr (fun q _ => by rw [h q]; exact rfl) (Ψ := fun q => rest c fW s q (wbuf c fW b))]
  unfold rest
  rw [bigSep_sep', bigSep_sep', ← Ring.pointsTo_sub_blocks (piece c s) (piece_disjoint c s) _ (piece_cover c s),
    show (bigSep Finset.univ fun q => (lW c ↦{share s q} fW : sProp 𝕄)) = (lW c ↦{slotShare s} fW) from
      (Transfers.pointsTo_deal Finset.univ Finset.univ_nonempty (slotShare s)).symm]
  refine sep_eq ?_ ?_
  · iintro ⟨H1, H2, H3⟩; isplitr [H2]
    · isplitl [H1] <;> iassumption
    iexact H2
  · iintro ⟨⟨H1, H3⟩, H2⟩; isplitl [H1]; · iexact H1
    isplitl [H2] <;> iassumption

/-- The ring with nothing in flight and every slot at some contents, from its parts, -/
theorem Ring_start (f : Buf (Elt F) (lBuf c)) :
    iprop((bigSep Finset.univ fun s => bigSep Finset.univ fun q => semVal ((c : Thread nD τ), sem s q) 0)
      ∗ (lBuf c ↦{fullShare} f) ∗ (lW c ↦{fullShare} fW)) ⊢ Ring c fW (fun _ _ => .any) := by
  rw [Ring.pointsTo_blocks (slotSet c) (slot_disjoint c) (slot_cover c) f,
    Transfers.pointsTo_deal (ℓ := lW c) (Finset.univ : Finset (Fin 2)) Finset.univ_nonempty fullShare, ← bigSep_sep', ← bigSep_sep']
  unfold Ring
  refine bigSep_mono fun s _ => ?_
  rw [Ring.pointsTo_sub_blocks (piece c s) (piece_disjoint c s) _ (piece_cover c s),
    Transfers.pointsTo_deal (ℓ := lW c) (q := Transfers.dealOf fullShare Finset.univ s) (Finset.univ : Finset (Fin 4)) Finset.univ_nonempty, ← bigSep_sep', ← bigSep_sep']
  refine bigSep_mono fun q _ => ?_
  exact Cell_any c fW s q f

/-- and back to them. -/
theorem Ring_stop (f₀ : Buf (Elt F) (lBuf c)) :
    Ring c fW (fun _ _ => .any) ⊢ iprop((bigSep Finset.univ fun s => bigSep Finset.univ fun q => semVal ((c : Thread nD τ), sem s q) 0)
      ∗ (∃ f, lBuf c ↦{fullShare} f) ∗ (lW c ↦{fullShare} fW)) := by
  refine BIBase.Entails.trans (Q := iprop((bigSep Finset.univ fun s => bigSep Finset.univ fun q => semVal ((c : Thread nD τ), sem s q) 0)
      ∗ (bigSep Finset.univ fun s => iprop(∃ f, lBuf c ↦[slotSet c s]{fullShare} f)) ∗ (lW c ↦{fullShare} fW))) ?_ ?_
  · rw [Transfers.pointsTo_deal (ℓ := lW c) (Finset.univ : Finset (Fin 2)) Finset.univ_nonempty fullShare, ← bigSep_sep', ← bigSep_sep']
    unfold Ring
    refine bigSep_mono fun s _ => ?_
    refine BIBase.Entails.trans (Q := iprop((bigSep Finset.univ fun q => semVal ((c : Thread nD τ), sem s q) 0)
      ∗ (bigSep Finset.univ fun q => iprop(∃ f, lBuf c ↦[piece c s q]{fullShare} f)) ∗ (lW c ↦{slotShare s} fW))) ?_ ?_
    · rw [Transfers.pointsTo_deal (ℓ := lW c) (q := slotShare s) (Finset.univ : Finset (Fin 4)) Finset.univ_nonempty, ← bigSep_sep', ← bigSep_sep']
      refine bigSep_mono fun q _ => ?_
      exact Cell_parts c fW s q
    · iintro ⟨H1, H2, H3⟩
      isplitl [H1]; · iexact H1
      isplitl [H2]
      · iapply (Ring.pointsTo_sub_blocks_join_exists (piece c s) (piece_disjoint c s) _ (piece_cover c s) f₀); iexact H2
      iexact H3
  · iintro ⟨H1, H2, H3⟩
    isplitl [H1]; · iexact H1
    isplitl [H2]
    · iapply (Ring.pointsTo_blocks_join_exists (slotSet c) (slot_disjoint c) (slot_cover c) f₀); iexact H2
    iexact H3

end Cert.KernelIdeal.Prf
-- ==== Proof.Steps.lean ====
module

public import proofs.«01_k».proof.Proof.Ring

@[expose] public section

set_option maxRecDepth 65536

noncomputable section

namespace Cert.KernelIdeal.Prf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-! # Loads and stores of memory held by what it reads -/

variable {α : Type}

/-- A program's weakest precondition in the body. -/
abbrev wpB (c : Dev nD) (k : Prog (TpuEff nD τ sig (Elt F) Λ₀ .tc) α) (Q : α → sProp 𝕄) : sProp 𝕄 :=
  wp frame (wpE (defs₀ (F := F)) Variants.none (c : Thread nD τ) none) Set.univ k Q

/-- Memory of a core, held in full, reading as `X`. -/
abbrev has (c : Dev nD) {sp : Space} {s : Shape} {e : EltTy} (m : Memref sig .tc sp s e) (X : s.Idx → Elt F e) : sProp 𝕄 :=
  owns (c : Thread nD τ) m fullShare X

/-- What is read through a rectangle. -/
def got {s : Shape} {e : EltTy} (r : Rect s) (X : s.Idx → Elt F e) : Vec F r.shape e := fun x => X (r.emb x)
/-- What memory reads after a store through a rectangle. -/
def put {s : Shape} {e : EltTy} (r : Rect s) (w : Vec F r.shape e) (X : s.Idx → Elt F e) : s.Idx → Elt F e := Function.extend r.emb w X

theorem mem_set_iff {s : Shape} (r : Rect s) (i : s.Idx) : i ∈ r.set ↔ ∃ x, r.emb x = i := by
  rw [← Rect.map_emb_univ]; simp only [Finset.mem_map, Finset.mem_univ, true_and]

theorem got_put {s : Shape} {e : EltTy} (r : Rect s) (w : Vec F r.shape e) (X : s.Idx → Elt F e) : got r (put r w X) = w :=
  funext fun x => r.emb.injective.extend_apply w X x

theorem put_off {s : Shape} {e : EltTy} (r : Rect s) (w : Vec F r.shape e) (X : s.Idx → Elt F e) {i : s.Idx} (h : i ∉ r.set) :
    put r w X i = X i :=
  Function.extend_apply' w X i fun ⟨x, hx⟩ => h ((mem_set_iff r i).2 ⟨x, hx⟩)

theorem got_put_off {s : Shape} {e : EltTy} (r r' : Rect s) (w : Vec F r'.shape e) (X : s.Idx → Elt F e) (h : Disjoint r.set r'.set) :
    got r (put r' w X) = got r X :=
  funext fun x => put_off r' w X (Finset.disjoint_left.mp h ((mem_set_iff r _).2 ⟨x, rfl⟩))

variable (c : Dev nD)

theorem wp_get {cs : CoreSpace} {s : Shape} {e : EltTy} {m : Memref sig .tc cs s e} {r : Rect s} {hl : m.view.LoadsAt r.toLoadRect}
    {k : (r.shape.Idx → Elt F e) → Prog (TpuEff nD τ sig (Elt F) Λ₀ .tc) α} {Q : α → sProp 𝕄} {X : s.Idx → Elt F e} :
    has c m X ⊢ iprop((has c m X -∗ wpB c (k (got r X)) Q) -∗ wpB c (.op (.load m r.toLoadRect hl) k) Q) := by
  unfold has owns
  iintro ⟨%f, %hf, Hm⟩ Hk
  iapply (wp_load Variants.none (c : Thread nD τ) none Set.univ (m := m) (r := r.toLoadRect) (hl := hl) (k := k) (Q := Q) (View.setOn_subset_set _ _)) $$ Hm
  iintro Hm
  have e : m.view.readAt (Elt F) r.toLoadRect f = got r X := by subst hf; rfl
  rw [e]
  iapply Hk
  iexists f
  isplitr; · ipureintro; exact hf
  iexact Hm

theorem wp_put {cs : CoreSpace} {s : Shape} {e : EltTy} {m : Memref sig .tc cs s e} {r : Rect s} {w : r.shape.Idx → Elt F e}
    {hx : (m.access r).Stores Finset.univ} {hm : Finset.univ = (Finset.univ : Finset r.shape.Idx) ∨ ∀ a, r.stride a = 1}
    {k : PUnit → Prog (TpuEff nD τ sig (Elt F) Λ₀ .tc) α} {Q : α → sProp 𝕄} {X : s.Idx → Elt F e} :
    has c m X ⊢ iprop((has c m (put r w X) -∗ wpB c (k ⟨⟩) Q) -∗ wpB c (.op (.store m r w Finset.univ hx hm) k) Q) := by
  unfold has owns
  iintro ⟨%f, %hf, Hm⟩ Hk
  iapply (wp_store Variants.none (c : Thread nD τ) none Set.univ (m := m) (r := r) (w := w) (hx := hx) (hm := hm) (k := k) (Q := Q)
    (S := m.view.set) (by rw [View.setOn_univ]; exact View.set_slice_subset _ _)) $$ Hm
  iintro Hm
  iapply Hk
  iexists _
  isplitr
  swap; · iexact Hm
  ipureintro
  funext y
  by_cases hy : y ∈ r.set
  · obtain ⟨x, rfl⟩ := (mem_set_iff r y).1 hy
    exact (View.read_slice_write_emb r f w (Finset.mem_univ x)).trans (congrFun (got_put r w X) x).symm
  · rw [put_off r w X hy, ← hf]
    exact View.read_slice_write_of_not_mem r f w Finset.univ fun h => hy ((mem_set_iff r y).2 (by obtain ⟨x, -, hx⟩ := Finset.mem_map.mp h; exact ⟨x, hx⟩))

/-! # The schedule of the transfers -/

/-- A transfer of stack `t`, where there is one. -/
def due (t : ℕ) : CS := if h : t < 12 then .fly ⟨t, h⟩ else .any
/-- The ring before a point: the quarters of the next stack started so far, and at a stack's first point all of its own. -/
def stA (t j : ℕ) (s : Fin 2) (q : Fin 4) : CS :=
  if s.val = (t + 1) % 2 then (if q.val < j then due (t + 1) else .any) else if j = 0 ∧ 1 ≤ t then due t else .any
/-- Once the first stack's transfers have started; -/
def stB (t j : ℕ) (s : Fin 2) (q : Fin 4) : CS :=
  if s.val = (t + 1) % 2 then (if q.val < j then due (t + 1) else .any) else if j = 0 then due t else .any
/-- once this point's quarter has; -/
def stC (t j : ℕ) (s : Fin 2) (q : Fin 4) : CS :=
  if s.val = (t + 1) % 2 then (if q.val ≤ j then due (t + 1) else .any) else if j = 0 then due t else .any
/-- and after the point. -/
def stD (t j : ℕ) (s : Fin 2) (q : Fin 4) : CS :=
  if s.val = (t + 1) % 2 then (if q.val ≤ j then due (t + 1) else .any) else .any

theorem stD_next : ∀ t < 13, ∀ j < 4, (∀ s q, stD t j s q = if j = 3 then stA (t + 1) 0 s q else stA t (j + 1) s q) := by decide +kernel

theorem first_st : ∀ i : grid0.Coords, k0_cond1 i = 1#1 → ∀ s q,
    setCell (setCell (setCell (setCell (stA (i 0).val (i 1).val) 0 0 (.fly 0)) 0 1 (.fly 0)) 0 2 (.fly 0)) 0 3 (.fly 0) s q
      = stB (i 0).val (i 1).val s q := by decide +kernel
theorem first_any : ∀ i : grid0.Coords, k0_cond1 i = 1#1 → ∀ s q, stA (i 0).val (i 1).val s q = .any := by decide +kernel
theorem notFirst_st : ∀ i : grid0.Coords, ¬ k0_cond1 i = 1#1 → ∀ s q, stA (i 0).val (i 1).val s q = stB (i 0).val (i 1).val s q := by
  decide +kernel
theorem next_any : ∀ i : grid0.Coords, stB (i 0).val (i 1).val ⟨wOther i, wOther_lt i⟩ ⟨(i 1).val, i1_lt i⟩ = .any := by decide +kernel
theorem next_st : ∀ i : grid0.Coords, ∀ h : k0_cond2 i = 1#1, ∀ s q,
    setCell (stB (i 0).val (i 1).val) ⟨wOther i, wOther_lt i⟩ ⟨(i 1).val, i1_lt i⟩ (.fly ⟨wNext i, wNext_lt i h⟩) s q
      = stC (i 0).val (i 1).val s q := by decide +kernel
theorem notNext_st : ∀ i : grid0.Coords, ¬ k0_cond2 i = 1#1 → ∀ s q, stB (i 0).val (i 1).val s q = stC (i 0).val (i 1).val s q := by
  decide +kernel
theorem enc_fly : ∀ i : grid0.Coords, k0_cond7 i = 1#1 → ∀ q, stC (i 0).val (i 1).val ⟨wEncSlot i, wEncSlot_lt i⟩ q = .fly ⟨wEnc i, wEnc_lt i⟩ := by
  decide +kernel
theorem enc_slot : ∀ i : grid0.Coords, k0_cond7 i = 1#1 → wEncSlot i = wSlot i := by decide +kernel
theorem enc_st : ∀ i : grid0.Coords, k0_cond7 i = 1#1 → ∀ s q,
    (if s = ⟨wEncSlot i, wEncSlot_lt i⟩ then .any else stC (i 0).val (i 1).val s q) = stD (i 0).val (i 1).val s q := by decide +kernel
theorem notEnc_st : ∀ i : grid0.Coords, ¬ k0_cond7 i = 1#1 → ∀ s q, stC (i 0).val (i 1).val s q = stD (i 0).val (i 1).val s q := by decide +kernel

end Cert.KernelIdeal.Prf
-- ==== Proof.Flights.lean ====
module

public import proofs.«01_k».proof.Proof.Steps

@[expose] public section

set_option maxRecDepth 65536

noncomputable section

namespace Cert.KernelIdeal.Prf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

variable {α : Type} (c : Dev nD)

/-! # The steps of the transfers -/

variable (fW : Buf (Elt F) (lW c)) (i : grid0.Coords)

theorem Ring_congr {st st' : Fin 2 → Fin 4 → CS} (h : ∀ s q, st s q = st' s q) : Ring c fW st = Ring c fW st' := by
  rw [show st = st' from funext fun s => funext (h s)]

theorem wp_first (rest : Prog (TpuEff nD τ sig (Elt F) Λ₀ .tc) α) (Q : α → sProp 𝕄) :
    Ring c fW (stA (i 0).val (i 1).val) ⊢ iprop((Ring c fW (stB (i 0).val (i 1).val) -∗ wpB c rest Q)
      -∗ wpB c (guard (k0_cond1 i = 1#1) (stepFirst i) rest) Q) := by
  unfold guard
  by_cases h : k0_cond1 i = 1#1
  · rw [dif_pos h, ← Ring_congr c fW (first_st i h)]
    unfold stepFirst
    have e := first_any i h
    iintro HR Hk
    iapply (wp_issue c fW 0 0 0 _ (e 0 0)) $$ HR; iintro HR
    iapply (wp_issue c fW 0 0 1 _ (by simp [setCell, e])) $$ HR; iintro HR
    iapply (wp_issue c fW 0 0 2 _ (by simp [setCell, e])) $$ HR; iintro HR
    iapply (wp_issue c fW 0 0 3 _ (by simp [setCell, e])) $$ HR; iintro HR
    iapply Hk; iexact HR
  · rw [dif_neg h, Ring_congr c fW (notFirst_st i h)]
    iintro HR Hk; iapply Hk; iexact HR

theorem wp_nextAt (h : k0_cond2 i = 1#1) (q : Fin 4) (hq : q.val = (i 1).val) (rest : Prog (TpuEff nD τ sig (Elt F) Λ₀ .tc) α) (Q : α → sProp 𝕄) :
    Ring c fW (stB (i 0).val (i 1).val) ⊢ iprop((Ring c fW (stC (i 0).val (i 1).val) -∗ wpB c rest Q)
      -∗ wpB c (issue (wOther i) (wNext i) q.val (wOther_lt i) (wNext_lt i h) q.2 rest) Q) := by
  obtain rfl : q = ⟨(i 1).val, i1_lt i⟩ := Fin.ext hq
  rw [← Ring_congr c fW (next_st i h)]
  exact wp_issue c fW ⟨wOther i, wOther_lt i⟩ ⟨wNext i, wNext_lt i h⟩ ⟨(i 1).val, i1_lt i⟩ _ (next_any i) rest Q

theorem wp_next (rest : Prog (TpuEff nD τ sig (Elt F) Λ₀ .tc) α) (Q : α → sProp 𝕄) :
    Ring c fW (stB (i 0).val (i 1).val) ⊢ iprop((Ring c fW (stC (i 0).val (i 1).val) -∗ wpB c rest Q)
      -∗ wpB c (guard (k0_cond2 i = 1#1) (stepNext i) rest) Q) := by
  unfold guard
  by_cases h : k0_cond2 i = 1#1
  · rw [dif_pos h]
    unfold stepNext guard
    have h3 := cond3_iff i; have h4 := cond4_iff i; have h5 := cond5_iff i; have h6 := cond6_iff i
    have hj := i1_lt i
    obtain hj | hj | hj | hj : (i 1).val = 0 ∨ (i 1).val = 1 ∨ (i 1).val = 2 ∨ (i 1).val = 3 := by omega
    · rw [dif_pos (h3.2 hj), dif_neg (h4.not.2 (by omega)), dif_neg (h5.not.2 (by omega)), dif_neg (h6.not.2 (by omega))]
      exact wp_nextAt c fW i h 0 hj.symm rest Q
    · rw [dif_neg (h3.not.2 (by omega)), dif_pos (h4.2 hj), dif_neg (h5.not.2 (by omega)), dif_neg (h6.not.2 (by omega))]
      exact wp_nextAt c fW i h 1 hj.symm rest Q
    · rw [dif_neg (h3.not.2 (by omega)), dif_neg (h4.not.2 (by omega)), dif_pos (h5.2 hj), dif_neg (h6.not.2 (by omega))]
      exact wp_nextAt c fW i h 2 hj.symm rest Q
    · rw [dif_neg (h3.not.2 (by omega)), dif_neg (h4.not.2 (by omega)), dif_neg (h5.not.2 (by omega)), dif_pos (h6.2 hj)]
      exact wp_nextAt c fW i h 3 hj.symm rest Q
  · rw [dif_neg h, Ring_congr c fW (notNext_st i h)]
    iintro HR Hk; iapply Hk; iexact HR

/-- A slot whose four quarters have landed, as one: -/
def stFull (st : Fin 2 → Fin 4 → CS) (s : Fin 2) (b : Fin 12) : Fin 2 → Fin 4 → CS := fun s' q => if s' = s then .full b else st s' q

theorem wp_await4 (s : Fin 2) (b : Fin 12) (st : Fin 2 → Fin 4 → CS) (hst : ∀ q, st s q = .fly b)
    (rest : Prog (TpuEff nD τ sig (Elt F) Λ₀ .tc) α) (Q : α → sProp 𝕄) :
    iprop(Ring c fW st ∗ ∃ W, owes (c : Thread nD τ) 0 W)
      ⊢ iprop((iprop(Ring c fW (stFull st s b) ∗ ∃ W, owes (c : Thread nD τ) 0 W) -∗ wpB c rest Q)
        -∗ wpB c (await s b 0 s.2 b.2 (by decide) <| await s b 1 s.2 b.2 (by decide) <|
            await s b 2 s.2 b.2 (by decide) <| await s b 3 s.2 b.2 (by decide) rest) Q) := by
  have e : ∀ s' q, setCell (setCell (setCell (setCell st s 0 (.full b)) s 1 (.full b)) s 2 (.full b)) s 3 (.full b) s' q = stFull st s b s' q := by
    intro s' q
    unfold setCell stFull
    by_cases hs : s' = s
    · subst hs
      match q with
      | 0 => simp
      | 1 => simp
      | 2 => simp
      | 3 => simp
    · simp [hs]
  rw [← Ring_congr c fW e]
  iintro H Hk
  iapply (wp_await c fW s b 0 _ (hst 0)) $$ H; iintro H
  iapply (wp_await c fW s b 1 _ (by simp [setCell, hst])) $$ H; iintro H
  iapply (wp_await c fW s b 2 _ (by simp [setCell, hst])) $$ H; iintro H
  iapply (wp_await c fW s b 3 _ (by simp [setCell, hst])) $$ H; iintro H
  iapply Hk; iexact H

/-- Loading a filled slot. -/
theorem wp_getBuf (s : Fin 2) (b : Fin 12) (st : Fin 2 → Fin 4 → CS) {hl : mBuf.view.LoadsAt (rBuf s s.2).toLoadRect}
    {k : (S1x6144x768.Idx → Elt F .f32) → Prog (TpuEff nD τ sig (Elt F) Λ₀ .tc) α} {Q : α → sProp 𝕄} :
    Ring c fW (stFull st s b) ⊢ iprop((Ring c fW (stFull st s b) -∗ wpB c (k (got (rBuf s s.2) (wbuf c fW b))) Q)
      -∗ wpB c (.op (.load mBuf (rBuf s s.2).toLoadRect hl) k) Q) := by
  rw [Ring_slot c fW (stFull st s b) s b fun q => if_pos rfl]
  iintro ⟨⟨Hv, Hb⟩, HR⟩ Hk
  iapply (wp_load Variants.none (c : Thread nD τ) none Set.univ (m := mBuf) (r := (rBuf s s.2).toLoadRect) (hl := hl) (k := k) (Q := Q)
    (S := slotSet c s) (f := wbuf c fW b) (by exact Finset.map_refl.subset)) $$ Hb
  iintro Hb
  iapply Hk
  isplitr [HR]
  · isplitl [Hv] <;> iassumption
  iexact HR

theorem Ring_settle (st : Fin 2 → Fin 4 → CS) (s : Fin 2) (b : Fin 12) :
    Ring c fW (stFull st s b) ⊢ Ring c fW (fun s' q => if s' = s then .any else st s' q) := by
  unfold Ring
  refine bigSep_mono fun s' _ => bigSep_mono fun q _ => ?_
  unfold stFull
  dsimp only
  by_cases h : s' = s
  · rw [if_pos h, if_pos h]; exact Cell_forget c fW s' q b
  · rw [if_neg h, if_neg h]; exact (BIBase.Entails.rfl : Cell c fW s' q (st s' q) ⊢ _)

end Cert.KernelIdeal.Prf
-- ==== Proof.Model.lean ====
module

public import proofs.«01_k».proof.Proof.Steps

@[expose] public section

set_option maxRecDepth 65536

noncomputable section

namespace Cert.KernelIdeal.Prf

open Idealize.ShloMosaic Idealize.ShloMosaic.TcCoe Idealize.ShloMosaic.Tactic
open Cert.KernelIdeal Cert.KernelIdeal.Gen

variable {F : FTy → Type} [FloatOps F]

/-! # What the body computes for one stack -/

/-- Block `k` of 128 columns of a stack's pre-activations; -/
abbrev rBlock (k : ℕ) (hk : k < 48) : Rect S1x32x6144 :=
  Rect.unit (s := S1x32x6144) ![0, 0, 128 * k] S1x32x128.size (inb3 (by omega) (by omega) (by omega))
/-- 1536 columns of its codes; -/
abbrev rCols (k : ℕ) (hk : k + 1536 ≤ 6144) : Rect S1x32x6144 :=
  Rect.unit (s := S1x32x6144) ![0, 0, k] S1x32x1536.size (inb3 (by omega) (by omega) (by omega))
/-- the first column of its thresholds. -/
abbrev rCol1 : Rect S1x32x128 := Rect.unit (s := S1x32x128) ![0, 0, 0] S1x32x1.size (inb3 (by omega) (by omega) (by omega))

theorem step_add {o p q : ℕ} (x : ℕ) (h : o = p + q) : o + 1 * x = p + 1 * (q + 1 * x) := by omega

/-! Reading through one rectangle and then through another is reading through the one they compose to. -/

theorem got_block (s k : ℕ) (hs : s < 2) (hk : k < 48) (X : Vec F S2x32x6144 .f32) :
    got (rChunk s k hs hk) X = got (rBlock k hk) (got (rSlot s hs) X) := by
  funext x
  refine congrArg X (funext fun a => Fin.ext ?_)
  match a with
  | ⟨0, _⟩ => exact step_add _ (Nat.add_zero _).symm
  | ⟨1, _⟩ => exact step_add _ (Nat.add_zero _).symm
  | ⟨2, _⟩ => exact step_add _ (Nat.zero_add _).symm
theorem got_cols (s k : ℕ) (hs : s < 2) (hk : k + 1536 ≤ 6144) (X : Vec F S2x32x6144 .f32) :
    got (rQuarter s k hs hk) X = got (rCols k hk) (got (rSlot s hs) X) := by
  funext x
  refine congrArg X (funext fun a => Fin.ext ?_)
  match a with
  | ⟨0, _⟩ => exact step_add _ (Nat.add_zero _).symm
  | ⟨1, _⟩ => exact step_add _ (Nat.add_zero _).symm
  | ⟨2, _⟩ => exact step_add _ (Nat.zero_add _).symm
theorem got_col1 (s : ℕ) (hs : s < 2) (X : Vec F S2x32x128 .f32) : got (rThr1 s hs) X = got rCol1 (got (rThr s hs) X) := by
  funext x
  refine congrArg X (funext fun a => Fin.ext ?_)
  match a with
  | ⟨0, _⟩ => exact step_add _ (Nat.add_zero _).symm
  | ⟨1, _⟩ => exact step_add _ (Nat.add_zero _).symm
  | ⟨2, _⟩ => exact step_add _ (Nat.zero_add _).symm

/-- The blocks of a stack's pre-activations. -/
def blocks (p : Vec F S1x32x6144 .f32) (k : ℕ) : Vec F S1x32x128 .f32 := if h : k < 48 then got (rBlock k h) p else noBlocks k

/-- The thresholds by the lists; -/
def thr0 (p : Vec F S1x32x6144 .f32) : Vec F S1x32x128 .f32 := spread (quick (blocks p))
/-- the check of thresholds; -/
def failed (y : Vec F S1x32x128 .f32) (p : Vec F S1x32x6144 .f32) : Prop := bad (column (got rCol1 y)) (blocks p) = 1#1
instance (y : Vec F S1x32x128 .f32) (p : Vec F S1x32x6144 .f32) : Decidable (failed y p) := by unfold failed; infer_instance
/-- the thresholds by the slower search; -/
def thrSlow (p : Vec F S1x32x6144 .f32) : Vec F S1x32x128 .f32 := k0_pay945 (dropped (k0_pay943 p) 31)
/-- those kept after the check; -/
def recheck (y : Vec F S1x32x128 .f32) (p : Vec F S1x32x6144 .f32) : Vec F S1x32x128 .f32 := if failed y p then thrSlow p else y
/-- and the codes. -/
def codes (y : Vec F S1x32x128 .f32) (p : Vec F S1x32x6144 .f32) : Vec F S1x32x6144 .f32 := k0_pay1 (got rCol1 y) p

/-- Reading a whole block changes nothing, -/
theorem got_all {s : Shape} {e : EltTy} {o : Fin s.rank → ℕ} {h : ∀ a, o a + s.size a ≤ s.size a} (X : s.Idx → Elt F e) (ho : ∀ a, o a = 0) : got (Rect.unit (s := s) o s.size h) X = X := by
  funext x
  refine congrArg X (funext fun a => Fin.ext ?_)
  change o a + 1 * (x a).val = (x a).val
  rw [ho]; omega

/-- and writing one leaves what is written. -/
theorem put_all {s : Shape} {e : EltTy} {o : Fin s.rank → ℕ} {h : ∀ a, o a + s.size a ≤ s.size a} (w X : s.Idx → Elt F e) (ho : ∀ a, o a = 0) : put (Rect.unit (s := s) o s.size h) w X = w := by
  funext x
  have e : (Rect.unit (s := s) o s.size h).emb x = x := funext fun a => Fin.ext (by
    change o a + 1 * (x a).val = (x a).val
    rw [ho]; omega)
  exact (congrArg (put (Rect.unit (s := s) o s.size h) w X) e.symm).trans (congrFun (got_put (Rect.unit (s := s) o s.size h) w X) x)

theorem zero3 : ∀ a, (![0, 0, 0] : Fin 3 → ℕ) a = 0 := by decide

end Cert.KernelIdeal.Prf
-- ==== Proof.Compute.lean ====
module

public import proofs.«01_k».proof.Proof.Flights
public import proofs.«01_k».proof.Proof.Model

@[expose] public section

set_option maxRecDepth 65536

noncomputable section

namespace Cert.KernelIdeal.Prf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

variable {α : Type} (c : Dev nD)

/-! # The steps that compute -/

/-- The blocks read so far: those of `n` more reads, on top of `v`. -/
def fetched (g : ℕ → Vec F S1x32x128 .f32) (ord : ℕ → ℕ) : ℕ → ℕ → (ℕ → Vec F S1x32x128 .f32) → ℕ → Vec F S1x32x128 .f32
  | 0, _, v => v
  | n + 1, k, v => fetched g ord n (k + 1) fun c => bif c == ord k then g (ord k) else v c

theorem fetched_eq (g : ℕ → Vec F S1x32x128 .f32) (ord : ℕ → ℕ) (n k : ℕ) (v : ℕ → Vec F S1x32x128 .f32) (x : ℕ) :
    ((∃ j, k ≤ j ∧ j < k + n ∧ ord j = x) → fetched g ord n k v x = g x)
      ∧ ((¬ ∃ j, k ≤ j ∧ j < k + n ∧ ord j = x) → fetched g ord n k v x = v x) := by
  induction n generalizing k v with
  | zero => exact ⟨fun ⟨j, h1, h2, _⟩ => absurd h2 (by omega), fun _ => rfl⟩
  | succ n ih =>
    unfold fetched
    have h := ih (k + 1) fun c => bif c == ord k then g (ord k) else v c
    by_cases hx : ∃ j, k + 1 ≤ j ∧ j < k + 1 + n ∧ ord j = x
    · refine ⟨fun _ => h.1 hx, fun hn => absurd ?_ hn⟩
      obtain ⟨j, h1, h2, h3⟩ := hx
      exact ⟨j, by omega, by omega, h3⟩
    · rw [h.2 hx]
      by_cases e : x = ord k
      · subst e
        rw [beq_self_eq_true, cond_true]
        exact ⟨fun _ => rfl, fun hn => absurd ⟨k, le_rfl, by omega, rfl⟩ hn⟩
      · rw [beq_false_of_ne e, cond_false]
        refine ⟨fun ⟨j, h1, h2, h3⟩ => absurd ?_ hx, fun _ => rfl⟩
        refine ⟨j, ?_, by omega, h3⟩
        rcases Nat.eq_or_lt_of_le h1 with rfl | h4
        · exact absurd h3.symm e
        · exact h4

theorem fetched_all (p : Vec F S1x32x6144 .f32) (ord : ℕ → ℕ) (ho : ∀ k, k < 48 → ord k < 48) (hs : ∀ x < 48, ∃ j < 48, ord j = x) :
    fetched (blocks p) ord 48 0 noBlocks = blocks p := by
  funext x
  by_cases hx : x < 48
  · obtain ⟨j, h1, h2⟩ := hs x hx
    exact (fetched_eq (blocks p) ord 48 0 noBlocks x).1 ⟨j, Nat.zero_le _, by omega, h2⟩
  · rw [(fetched_eq (blocks p) ord 48 0 noBlocks x).2 fun ⟨j, _, h1, h2⟩ => hx (h2 ▸ ho j (by omega))]
    unfold blocks; rw [dif_neg hx]

theorem inTurn_onto : ∀ x < 48, ∃ j < 48, inTurn j = x := by decide +kernel

theorem wp_fetches (s : ℕ) (hs : s < 2) (ord : ℕ → ℕ) (ho : ∀ k, k < 48 → ord k < 48) (g0 : Vec F S2x32x6144 .f32)
    (K : (ℕ → Vec F S1x32x128 .f32) → Prog (TpuEff nD τ sig (Elt F) Λ₀ .tc) α) (Q : α → sProp 𝕄) (n k : ℕ) (h : n + k ≤ 48)
    (v : ℕ → Vec F S1x32x128 .f32) :
    has c mPre g0 ⊢ iprop((has c mPre g0 -∗ wpB c (K (fetched (blocks (got (rSlot s hs) g0)) ord n k v)) Q)
      -∗ wpB c (fetches s hs ord ho n k h v K) Q) := by
  induction n generalizing k v with
  | zero => iintro H Hk; iapply Hk; iexact H
  | succ n ih =>
    iintro H Hk
    iapply (wp_get c (m := mPre) (r := rChunk s (ord k) hs (ho k (by omega)))) $$ H
    iintro H
    have e : got (rChunk s (ord k) hs (ho k (by omega))) g0 = blocks (got (rSlot s hs) g0) (ord k) := by
      unfold blocks; rw [dif_pos (ho k (by omega))]; exact got_block s (ord k) hs _ g0
    rw [e]
    iapply (ih (k + 1) (by omega) _) $$ H
    iintro H
    iapply Hk; iexact H

theorem wp_fetchAll (s : ℕ) (hs : s < 2) (ord : ℕ → ℕ) (ho : ∀ k, k < 48 → ord k < 48) (hon : ∀ x < 48, ∃ j < 48, ord j = x) (g0 : Vec F S2x32x6144 .f32)
    (K : (ℕ → Vec F S1x32x128 .f32) → Prog (TpuEff nD τ sig (Elt F) Λ₀ .tc) α) (Q : α → sProp 𝕄) :
    has c mPre g0 ⊢ iprop((has c mPre g0 -∗ wpB c (K (blocks (got (rSlot s hs) g0))) Q)
      -∗ wpB c (fetches s hs ord ho 48 0 (by decide) noBlocks K) Q) := by
  have h := wp_fetches c s hs ord ho g0 K Q 48 0 (by decide) noBlocks
  rwa [fetched_all _ ord ho hon] at h

variable (fW : Buf (Elt F) (lW c)) (i : grid0.Coords)
variable (m2 : Memref sig .tc .vmem S12x32x768 .f32) (m3 : Memref sig .tc .vmem S12x1x768 .f32) (m4 : Memref sig .tc .vmem S12x1x6144 .f32)
  (m6 : Memref sig .tc .vmem S1x192x6144 .f32) (m7 : Memref sig .tc .vmem S1x32x1536 .f32) (m8 : Memref sig .tc .vmem S1x32x768 .f32)
  (m9 : Memref sig .tc .smem S1x1x1 .f32)
variable (X2 : Vec F S12x32x768 .f32) (X3 : Vec F S12x1x768 .f32) (X4 : Vec F S12x1x6144 .f32) (X6 : Vec F S1x192x6144 .f32)
  (X7 : Vec F S1x32x1536 .f32) (X8 : Vec F S1x32x768 .f32) (X9 : Vec F S1x1x1 .f32)
variable (g0 : Vec F S2x32x6144 .f32) (g1 : Vec F S2x32x128 .f32) (g2 : Vec F S3x32x192 .f32) (g3 : Vec F S2x32x6144 .f32)

/-- A stack's pre-activations. -/
def encode : Vec F S1x32x6144 .f32 :=
  k0_pay941 (got (rX (wEnc i) (wEnc_lt i)) X2) (got (rBd (wEnc i) (wEnc_lt i)) X3)
    (got (rBuf (wSlot i) (wSlot_lt i)) (wbuf c fW ⟨wEnc i, wEnc_lt i⟩)) (got (rBe (wEnc i) (wEnc_lt i)) X4)

/-- What the scratch blocks hold after the steps. -/
def g0' : Vec F S2x32x6144 .f32 :=
  if k0_cond7 i = 1#1 then put (rSlot (wSlot i) (wSlot_lt i)) (encode c fW i X2 X3 X4) g0 else g0
def g1' : Vec F S2x32x128 .f32 :=
  if k0_cond8 i = 1#1 then put (rThr (wSlot i) (wSlot_lt i)) (thr0 (got (rSlot (wSlot i) (wSlot_lt i)) g0)) g1 else g1
def g1'' : Vec F S2x32x128 .f32 :=
  if k0_cond9 i = 1#1 ∧ failed (got (rThr (wSlot i) (wSlot_lt i)) g1) (got (rSlot (wSlot i) (wSlot_lt i)) g0)
  then put (rThr (wSlot i) (wSlot_lt i)) (thrSlow (got (rSlot (wSlot i) (wSlot_lt i)) g0)) g1 else g1
def g3' : Vec F S2x32x6144 .f32 :=
  if k0_cond11 i = 1#1
  then put (rSlot (wSlot i) (wSlot_lt i)) (codes (got (rThr (wSlot i) (wSlot_lt i)) g1) (got (rSlot (wSlot i) (wSlot_lt i)) g0)) g3 else g3
def g2' : Vec F S3x32x192 .f32 :=
  if h : k0_cond12 i = 1#1 ∧ k0_cond13 i = 1#1
  then put (rAcc (wQuarter i) (wQuarter_lt i h.2)) (k0_pay4 (got (rSlot (wOther i) (wOther_lt i)) g3) X6) g2 else g2
/-- What the output blocks hold after them. -/
def o7 : Vec F S1x32x1536 .f32 := if k0_cond12 i = 1#1 then k0_pay2 (got (rQuarter (wOther i) (wCol i) (wOther_lt i) (wCol_le i)) g3) else X7
def o8 : Vec F S1x32x768 .f32 := if k0_cond12 i = 1#1 ∧ k0_cond14 i = 1#1
  then k0_pay6 (got (rSlot (wOther i) (wOther_lt i)) g3) X6 (got (rAcc 0 (by decide)) g2) (got (rAcc 1 (by decide)) g2) (got (rAcc 2 (by decide)) g2)
    (got (rBd (wDec i) (wDec_lt i)) X3) else X8
def o9 : Vec F S1x1x1 .f32 := if k0_cond12 i = 1#1 ∧ k0_cond14 i = 1#1
  then fun _ => k0_pay7 (got (rSlot (wOther i) (wOther_lt i)) g3) X6 (got (rAcc 0 (by decide)) g2) (got (rAcc 1 (by decide)) g2) (got (rAcc 2 (by decide)) g2)
    (got (rBd (wDec i) (wDec_lt i)) X3) (got (rX (wDec i) (wDec_lt i)) X2) else X9

theorem wp_enc (rest : Prog (TpuEff nD τ sig (Elt F) Λ₀ .tc) α) (Q : α → sProp 𝕄) :
    iprop((Ring c fW (stC (i 0).val (i 1).val) ∗ ∃ W, owes (c : Thread nD τ) 0 W) ∗ has c m2 X2 ∗ has c m3 X3 ∗ has c m4 X4 ∗ has c mPre g0)
      ⊢ iprop((iprop((Ring c fW (stD (i 0).val (i 1).val) ∗ ∃ W, owes (c : Thread nD τ) 0 W) ∗ has c m2 X2 ∗ has c m3 X3 ∗ has c m4 X4
          ∗ has c mPre (g0' c fW i X2 X3 X4 g0)) -∗ wpB c rest Q)
        -∗ wpB c (guard (k0_cond7 i = 1#1) (stepEnc i m2 m3 m4) rest) Q) := by
  unfold guard g0'
  by_cases h : k0_cond7 i = 1#1
  · rw [dif_pos h, if_pos h, ← Ring_congr c fW (enc_st i h)]
    unfold stepEnc
    iintro ⟨HR, H2, H3, H4, H0⟩ Hk
    iapply (wp_await4 c fW ⟨wEncSlot i, wEncSlot_lt i⟩ ⟨wEnc i, wEnc_lt i⟩ _ (enc_fly i h)) $$ HR
    iintro ⟨HR, HO⟩
    iapply (wp_get c (m := m2)) $$ H2; iintro H2
    iapply (wp_get c (m := m3)) $$ H3; iintro H3
    have e : (⟨wEncSlot i, wEncSlot_lt i⟩ : Fin 2) = ⟨wSlot i, wSlot_lt i⟩ := Fin.ext (enc_slot i h)
    rw [e]
    iapply (wp_getBuf c fW ⟨wSlot i, wSlot_lt i⟩ ⟨wEnc i, wEnc_lt i⟩ _) $$ HR; iintro HR
    iapply (wp_get c (m := m4)) $$ H4; iintro H4
    iapply (wp_get c (m := mPre)) $$ H0; iintro H0
    iapply (wp_put c (m := mPre)) $$ H0; iintro H0
    iapply Hk
    isplitl [HR HO]
    · isplitl [HR]
      · iapply (Ring_settle c fW _ _ _); iexact HR
      iexact HO
    isplitl [H2]; · iexact H2
    isplitl [H3]; · iexact H3
    isplitl [H4]; · iexact H4
    unfold encode
    iexact H0
  · rw [dif_neg h, if_neg h, Ring_congr c fW (notEnc_st i h)]
    iintro H Hk; iapply Hk; iexact H

theorem wp_thr (rest : Prog (TpuEff nD τ sig (Elt F) Λ₀ .tc) α) (Q : α → sProp 𝕄) :
    iprop(has c mPre g0 ∗ has c mThr g1)
      ⊢ iprop((iprop(has c mPre g0 ∗ has c mThr (g1' i g0 g1)) -∗ wpB c rest Q)
        -∗ wpB c (guard (k0_cond8 i = 1#1) (stepThr i) rest) Q) := by
  unfold guard g1'
  by_cases h : k0_cond8 i = 1#1
  · rw [dif_pos h, if_pos h]
    unfold stepThr
    iintro ⟨H0, H1⟩ Hk
    iapply (wp_fetchAll c (wSlot i) (wSlot_lt i) inTurn inTurn_lt inTurn_onto g0) $$ H0; iintro H0
    iapply (wp_get c (m := mThr)) $$ H1; iintro H1
    iapply (wp_put c (m := mThr)) $$ H1; iintro H1
    iapply Hk
    isplitl [H0]; · iexact H0
    iexact H1
  · rw [dif_neg h, if_neg h]
    iintro H Hk; iapply Hk; iexact H

/-- The slower search without its loop. -/
theorem stepSlow_eq (h : k0_cond9 i = 1#1) (rest : Prog (TpuEff nD τ sig (Elt F) Λ₀ .tc) α) :
    stepSlow i h rest = (do
      let p : Vec F S1x32x6144 .f32 ← Prog.lift (.load mPre (rSlot (wSlot i) (wSlot_lt i)).toLoadRect (View.loadsAt_vmem h_S1x32x6144))
      let _ : Vec F S1x32x128 .f32 ← Prog.lift (.load mThr (rThr (wSlot i) (wSlot_lt i)).toLoadRect (View.loadsAt_vmem h_S1x32x128))
      Prog.lift (.store mThr (rThr (wSlot i) (wSlot_lt i)) (thrSlow p) Finset.univ (View.stores_vmem_bits_univ h_S1x32x128 rfl) (.inl rfl))
      rest) := by
  unfold stepSlow
  refine congrArg (fun K : Vec F S1x32x6144 .f32 → Prog (TpuEff nD τ sig (Elt F) Λ₀ .tc) α =>
    Prog.lift (.load mPre (rSlot (wSlot i) (wSlot_lt i)).toLoadRect (View.loadsAt_vmem h_S1x32x6144)) >>= K) (funext fun p => ?_)
  exact loop_dropped i h (k0_pay943 p) _

theorem wp_slow (h : k0_cond9 i = 1#1) (rest : Prog (TpuEff nD τ sig (Elt F) Λ₀ .tc) α) (Q : α → sProp 𝕄) :
    iprop(has c mPre g0 ∗ has c mThr g1)
      ⊢ iprop((iprop(has c mPre g0 ∗ has c mThr (put (rThr (wSlot i) (wSlot_lt i)) (thrSlow (got (rSlot (wSlot i) (wSlot_lt i)) g0)) g1)) -∗ wpB c rest Q)
        -∗ wpB c (stepSlow i h rest) Q) := by
  rw [stepSlow_eq]
  iintro ⟨H0, H1⟩ Hk
  iapply (wp_get c (m := mPre)) $$ H0; iintro H0
  iapply (wp_get c (m := mThr)) $$ H1; iintro H1
  iapply (wp_put c (m := mThr)) $$ H1; iintro H1
  iapply Hk
  isplitl [H0]; · iexact H0
  iexact H1

theorem wp_check (rest : Prog (TpuEff nD τ sig (Elt F) Λ₀ .tc) α) (Q : α → sProp 𝕄) :
    iprop(has c mPre g0 ∗ has c mThr g1)
      ⊢ iprop((iprop(has c mPre g0 ∗ has c mThr (g1'' i g0 g1)) -∗ wpB c rest Q)
        -∗ wpB c (guard (k0_cond9 i = 1#1) (stepCheck i) rest) Q) := by
  unfold guard g1''
  by_cases h : k0_cond9 i = 1#1
  · rw [dif_pos h]
    unfold stepCheck
    iintro ⟨H0, H1⟩ Hk
    iapply (wp_get c (m := mThr)) $$ H1; iintro H1
    iapply (wp_fetchAll c (wSlot i) (wSlot_lt i) (fun k => k) (fun _ h => h) (fun x hx => ⟨x, hx, rfl⟩) g0) $$ H0; iintro H0
    rw [got_col1]
    unfold guard
    by_cases hb : failed (got (rThr (wSlot i) (wSlot_lt i)) g1) (got (rSlot (wSlot i) (wSlot_lt i)) g0)
    · rw [if_pos ⟨h, hb⟩, dif_pos (by exact hb)]
      iapply (wp_slow c i g0 g1 h rest Q) $$ [H0 H1]
      · isplitl [H0]; · iexact H0
        iexact H1
      iintro ⟨H0, H1⟩
      iapply Hk
      isplitl [H0]; · iexact H0
      iexact H1
    · rw [if_neg fun e => hb e.2, dif_neg (by exact hb)]
      iapply Hk
      isplitl [H0]; · iexact H0
      iexact H1
  · rw [dif_neg h, if_neg fun e => h e.1]
    iintro H Hk; iapply Hk; iexact H

theorem wp_code (rest : Prog (TpuEff nD τ sig (Elt F) Λ₀ .tc) α) (Q : α → sProp 𝕄) :
    iprop(has c mPre g0 ∗ has c mThr g1 ∗ has c mU g3)
      ⊢ iprop((iprop(has c mPre g0 ∗ has c mThr g1 ∗ has c mU (g3' i g0 g1 g3)) -∗ wpB c rest Q)
        -∗ wpB c (guard (k0_cond11 i = 1#1) (stepCode i) rest) Q) := by
  unfold guard g3'
  by_cases h : k0_cond11 i = 1#1
  · rw [dif_pos h, if_pos h]
    unfold stepCode codes
    iintro ⟨H0, H1, H3⟩ Hk
    iapply (wp_get c (m := mThr)) $$ H1; iintro H1
    iapply (wp_get c (m := mPre)) $$ H0; iintro H0
    iapply (wp_get c (m := mU)) $$ H3; iintro H3
    iapply (wp_put c (m := mU)) $$ H3; iintro H3
    rw [got_col1]
    iapply Hk
    isplitl [H0]; · iexact H0
    isplitl [H1]; · iexact H1
    iexact H3
  · rw [dif_neg h, if_neg h]
    iintro H Hk; iapply Hk; iexact H

theorem wp_tail (h : k0_cond12 i = 1#1) (rest : Prog (TpuEff nD τ sig (Elt F) Λ₀ .tc) α) (Q : α → sProp 𝕄) :
    iprop(has c m2 X2 ∗ has c m3 X3 ∗ has c m8 X8 ∗ has c m9 X9 ∗ has c mAcc g2)
      ⊢ iprop((iprop(has c m2 X2 ∗ has c m3 X3 ∗ has c m8 (o8 i X3 X6 X8 g2 g3) ∗ has c m9 (o9 i X2 X3 X6 X9 g2 g3)
          ∗ has c mAcc (g2' i X6 g2 g3)) -∗ wpB c rest Q)
        -∗ wpB c (guard (k0_cond13 i = 1#1) (stepKeep i (got (rSlot (wOther i) (wOther_lt i)) g3) X6)
          (guard (k0_cond14 i = 1#1) (stepOut i m2 m3 m8 m9 (got (rSlot (wOther i) (wOther_lt i)) g3) X6) rest)) Q) := by
  unfold guard o8 o9 g2'
  have h13 := cond13_iff i
  have h14 := cond14_iff i
  by_cases hq : k0_cond13 i = 1#1
  · have hn : ¬ k0_cond14 i = 1#1 := fun e => by have := h13.1 hq; have := h14.1 e; omega
    rw [dif_pos hq, dif_pos ⟨h, hq⟩, dif_neg hn, if_neg fun e => hn e.2, if_neg fun e => hn e.2]
    unfold stepKeep
    iintro ⟨H2, H3, H8, H9, Ha⟩ Hk
    iapply (wp_get c (m := mAcc)) $$ Ha; iintro Ha
    iapply (wp_put c (m := mAcc)) $$ Ha; iintro Ha
    iapply Hk
    isplitl [H2]; · iexact H2
    isplitl [H3]; · iexact H3
    isplitl [H8]; · iexact H8
    isplitl [H9]; · iexact H9
    iexact Ha
  · have hp : k0_cond14 i = 1#1 := h14.2 (by have := h13.not.1 hq; have := i1_lt i; omega)
    rw [dif_neg hq, dif_neg fun e => hq e.2, dif_pos hp, if_pos ⟨h, hp⟩, if_pos ⟨h, hp⟩]
    unfold stepOut
    iintro ⟨H2, H3, H8, H9, Ha⟩ Hk
    iapply (wp_get c (m := mAcc)) $$ Ha; iintro Ha
    iapply (wp_get c (m := mAcc)) $$ Ha; iintro Ha
    iapply (wp_get c (m := mAcc)) $$ Ha; iintro Ha
    iapply (wp_get c (m := m3)) $$ H3; iintro H3
    iapply (wp_get c (m := m8)) $$ H8; iintro H8
    iapply (wp_put c (m := m8)) $$ H8; iintro H8
    iapply (wp_get c (m := m2)) $$ H2; iintro H2
    unfold smemLoad smemLoadElt
    iapply (wp_get c (m := m9) (r := rLo)) $$ H9; iintro H9
    iapply (wp_put c (m := m9)) $$ H9; iintro H9
    rw [put_all (s := S1x32x768) _ _ zero3, put_all (s := S1x1x1) _ _ zero3]
    iapply Hk
    isplitl [H2]; · iexact H2
    isplitl [H3]; · iexact H3
    isplitl [H8]; · iexact H8
    isplitl [H9]; · iexact H9
    iexact Ha

theorem wp_dec (rest : Prog (TpuEff nD τ sig (Elt F) Λ₀ .tc) α) (Q : α → sProp 𝕄) :
    iprop(has c m2 X2 ∗ has c m3 X3 ∗ has c m6 X6 ∗ has c m7 X7 ∗ has c m8 X8 ∗ has c m9 X9 ∗ has c mAcc g2 ∗ has c mU g3)
      ⊢ iprop((iprop(has c m2 X2 ∗ has c m3 X3 ∗ has c m6 X6 ∗ has c m7 (o7 i X7 g3) ∗ has c m8 (o8 i X3 X6 X8 g2 g3) ∗ has c m9 (o9 i X2 X3 X6 X9 g2 g3)
          ∗ has c mAcc (g2' i X6 g2 g3) ∗ has c mU g3) -∗ wpB c rest Q)
        -∗ wpB c (guard (k0_cond12 i = 1#1) (stepDec i m2 m3 m6 m7 m8 m9) rest) Q) := by
  unfold guard
  by_cases h : k0_cond12 i = 1#1
  · rw [dif_pos h, show o7 i X7 g3 = k0_pay2 (got (rQuarter (wOther i) (wCol i) (wOther_lt i) (wCol_le i)) g3) from if_pos h]
    unfold stepDec
    iintro ⟨H2, H3, H6, H7, H8, H9, Ha, Hu⟩ Hk
    iapply (wp_get c (m := mU)) $$ Hu; iintro Hu
    iapply (wp_get c (m := m7)) $$ H7; iintro H7
    iapply (wp_put c (m := m7)) $$ H7; iintro H7
    iapply (wp_get c (m := mU)) $$ Hu; iintro Hu
    iapply (wp_get c (m := m6)) $$ H6; iintro H6
    rw [put_all (s := S1x32x1536) _ _ zero3, got_all (s := S1x192x6144) X6 zero3]
    iapply (wp_tail c i m2 m3 m8 m9 X2 X3 X6 X8 X9 g2 g3 h rest Q) $$ [H2 H3 H8 H9 Ha]
    · isplitl [H2]; · iexact H2
      isplitl [H3]; · iexact H3
      isplitl [H8]; · iexact H8
      isplitl [H9]; · iexact H9
      iexact Ha
    iintro ⟨H2, H3, H8, H9, Ha⟩
    iapply Hk
    isplitl [H2]; · iexact H2
    isplitl [H3]; · iexact H3
    isplitl [H6]; · iexact H6
    isplitl [H7]; · iexact H7
    isplitl [H8]; · iexact H8
    isplitl [H9]; · iexact H9
    isplitl [Ha]; · iexact Ha
    iexact Hu
  · unfold o7 o8 o9 g2'
    rw [dif_neg h, if_neg h, if_neg fun e => h e.1, if_neg fun e => h e.1, dif_neg fun e => h e.1]
    iintro H Hk; iapply Hk; iexact H

/-! # The body at a point -/

/-- The scratch blocks after a point. -/
def n0 : Vec F S2x32x6144 .f32 := g0' c fW i X2 X3 X4 g0
def n1 : Vec F S2x32x128 .f32 := g1'' i (n0 c fW i X2 X3 X4 g0) (g1' i (n0 c fW i X2 X3 X4 g0) g1)
def n3 : Vec F S2x32x6144 .f32 := g3' i (n0 c fW i X2 X3 X4 g0) (n1 c fW i X2 X3 X4 g0 g1) g3

theorem wp_body (Q : PUnit → sProp 𝕄) :
    iprop((Ring c fW (stA (i 0).val (i 1).val) ∗ ∃ W, owes (c : Thread nD τ) 0 W)
        ∗ (has c m2 X2 ∗ has c m3 X3 ∗ has c m4 X4 ∗ has c m6 X6 ∗ has c m7 X7 ∗ has c m8 X8 ∗ has c m9 X9)
        ∗ has c mPre g0 ∗ has c mThr g1 ∗ has c mAcc g2 ∗ has c mU g3)
      ⊢ iprop((iprop((Ring c fW (stD (i 0).val (i 1).val) ∗ ∃ W, owes (c : Thread nD τ) 0 W)
        ∗ (has c m2 X2 ∗ has c m3 X3 ∗ has c m4 X4 ∗ has c m6 X6 ∗ has c m7 (o7 i X7 (n3 c fW i X2 X3 X4 g0 g1 g3))
            ∗ has c m8 (o8 i X3 X6 X8 g2 (n3 c fW i X2 X3 X4 g0 g1 g3)) ∗ has c m9 (o9 i X2 X3 X6 X9 g2 (n3 c fW i X2 X3 X4 g0 g1 g3)))
        ∗ has c mPre (n0 c fW i X2 X3 X4 g0) ∗ has c mThr (n1 c fW i X2 X3 X4 g0 g1)
        ∗ has c mAcc (g2' i X6 g2 (n3 c fW i X2 X3 X4 g0 g1 g3)) ∗ has c mU (n3 c fW i X2 X3 X4 g0 g1 g3)) -∗ Q ⟨⟩)
        -∗ wpB c (body i m2 m3 m4 m6 m7 m8 m9) Q) := by
  unfold body bodyA bodyB
  iintro ⟨⟨HR, HO⟩, ⟨H2, H3, H4, H6, H7, H8, H9⟩, G0, G1, G2, G3⟩ Hk
  rw [show wpB c _ Q = _ from wp_bind _ _ _ _ _ Q]
  iapply (wp_first c fW i) $$ HR; iintro HR
  iapply (wp_next c fW i) $$ HR; iintro HR
  iapply (wp_enc c fW i m2 m3 m4 X2 X3 X4 g0) $$ [HR HO H2 H3 H4 G0]
  · isplitl [HR HO]
    · isplitl [HR]; · iexact HR
      iexact HO
    isplitl [H2]; · iexact H2
    isplitl [H3]; · iexact H3
    isplitl [H4]; · iexact H4
    iexact G0
  iintro ⟨HR, H2, H3, H4, G0⟩
  iapply (wp_thr c i _ g1) $$ [G0 G1]
  · isplitl [G0]; · iexact G0
    iexact G1
  iintro ⟨G0, G1⟩
  iapply (wp_check c i _ _) $$ [G0 G1]
  · isplitl [G0]; · iexact G0
    iexact G1
  iintro ⟨G0, G1⟩
  iapply (le_wp_ret _ _ _)
  iapply (wp_code c i _ _ g3) $$ [G0 G1 G3]
  · isplitl [G0]; · iexact G0
    isplitl [G1]; · iexact G1
    iexact G3
  iintro ⟨G0, G1, G3⟩
  iapply (wp_dec c i m2 m3 m6 m7 m8 m9 X2 X3 X6 X7 X8 X9 g2 _) $$ [H2 H3 H6 H7 H8 H9 G2 G3]
  · isplitl [H2]; · iexact H2
    isplitl [H3]; · iexact H3
    isplitl [H6]; · iexact H6
    isplitl [H7]; · iexact H7
    isplitl [H8]; · iexact H8
    isplitl [H9]; · iexact H9
    isplitl [G2]; · iexact G2
    iexact G3
  iintro ⟨H2, H3, H6, H7, H8, H9, G2, G3⟩
  iapply (le_wp_ret _ _ _)
  iapply Hk
  isplitl [HR]; · iexact HR
  isplitl [H2 H3 H4 H6 H7 H8 H9]
  · isplitl [H2]; · iexact H2
    isplitl [H3]; · iexact H3
    isplitl [H4]; · iexact H4
    isplitl [H6]; · iexact H6
    isplitl [H7]; · iexact H7
    isplitl [H8]; · iexact H8
    iexact H9
  isplitl [G0]; · iexact G0
  isplitl [G1]; · iexact G1
  isplitl [G2]; · iexact G2
  iexact G3

end Cert.KernelIdeal.Prf
-- ==== Proof.Inv.lean ====
module

public import proofs.«01_k».proof.Proof.Compute

@[expose] public section

set_option maxRecDepth 65536

noncomputable section

namespace Cert.KernelIdeal.Prf

open Idealize.ShloMosaic Idealize.ShloMosaic.TcCoe Idealize.ShloMosaic.Tactic
open Cert.KernelIdeal Cert.KernelIdeal.Gen

variable {F : FTy → Type} [FloatOps F]

/-! # What the scratch blocks hold at each point

Stack `b` is encoded at the points of the first coordinate `b` and decoded at those of `b + 1`. -/

variable (c : Dev nD) (fW : Buf (Elt F) (lW c))
variable (X2 : Vec F S12x32x768 .f32) (X3 : Vec F S12x1x768 .f32) (X4 : Vec F S12x1x6144 .f32) (W6 : Fin 12 → ℕ → Vec F S1x192x6144 .f32)

/-- A stack of the weights. -/
def slab (b : Fin 12) : Vec F S1x6144x768 .f32 := got (rBuf 0 (by decide)) (wbuf c fW b)

theorem slab_eq (s : ℕ) (hs : s < 2) (b : Fin 12) : got (rBuf s hs) (wbuf c fW b) = slab c fW b := by
  funext y
  refine congrArg (fW : S12x6144x768.Idx → Elt F .f32) (funext fun k => ?_)
  match k with
  | ⟨0, _⟩ => rfl
  | ⟨1, _⟩ => rfl
  | ⟨2, _⟩ => rfl

/-- A stack's pre-activations, -/
def preOf (b : Fin 12) : Vec F S1x32x6144 .f32 :=
  k0_pay941 (got (rX b b.2) X2) (got (rBd b b.2) X3) (slab c fW b) (got (rBe b b.2) X4)
/-- its thresholds, -/
def thrOf (b : Fin 12) : Vec F S1x32x128 .f32 := recheck (thr0 (preOf c fW X2 X3 X4 b)) (preOf c fW X2 X3 X4 b)
/-- its codes, -/
def codeOf (b : Fin 12) : Vec F S1x32x6144 .f32 := codes (thrOf c fW X2 X3 X4 b) (preOf c fW X2 X3 X4 b)
/-- the column blocks of its reconstruction kept, -/
def partOf (b : Fin 12) (k : ℕ) : Vec F S1x32x192 .f32 := k0_pay4 (codeOf c fW X2 X3 X4 b) (W6 b k)
/-- its codes' quarters, -/
def quarterOf (b : Fin 12) (k : ℕ) (hk : k < 4) : Vec F S1x32x1536 .f32 :=
  k0_pay2 (got (rCols (1536 * k) (by omega)) (codeOf c fW X2 X3 X4 b))
/-- its reconstruction -/
def recOf (b : Fin 12) : Vec F S1x32x768 .f32 :=
  k0_pay6 (codeOf c fW X2 X3 X4 b) (W6 b 3) (partOf c fW X2 X3 X4 W6 b 0) (partOf c fW X2 X3 X4 W6 b 1) (partOf c fW X2 X3 X4 W6 b 2) (got (rBd b b.2) X3)
/-- and its loss. -/
def lossOf (b : Fin 12) : Vec F S1x1x1 .f32 := fun _ =>
  k0_pay7 (codeOf c fW X2 X3 X4 b) (W6 b 3) (partOf c fW X2 X3 X4 W6 b 0) (partOf c fW X2 X3 X4 W6 b 1) (partOf c fW X2 X3 X4 W6 b 2) (got (rBd b b.2) X3)
    (got (rX b b.2) X2)

theorem slot_lt (n : ℕ) : n % 2 < 2 := Nat.mod_lt _ (by decide)

/-- The scratch blocks before the point at `(t, j)`. -/
structure Inv (t j : ℕ) (g0 : Vec F S2x32x6144 .f32) (g1 : Vec F S2x32x128 .f32) (g2 : Vec F S3x32x192 .f32) (g3 : Vec F S2x32x6144 .f32) : Prop where
  pre : ∀ b : Fin 12, b.val = t → 1 ≤ j → got (rSlot (b.val % 2) (slot_lt _)) g0 = preOf c fW X2 X3 X4 b
  thrA : ∀ b : Fin 12, b.val = t → j = 2 → got (rThr (b.val % 2) (slot_lt _)) g1 = thr0 (preOf c fW X2 X3 X4 b)
  thrB : ∀ b : Fin 12, b.val = t → j = 3 → got (rThr (b.val % 2) (slot_lt _)) g1 = thrOf c fW X2 X3 X4 b
  code : ∀ b : Fin 12, b.val + 1 = t → got (rSlot (b.val % 2) (slot_lt _)) g3 = codeOf c fW X2 X3 X4 b
  part : ∀ b : Fin 12, b.val + 1 = t → ∀ (k : ℕ) (hk : k < 3), k < j → got (rAcc k hk) g2 = partOf c fW X2 X3 X4 W6 b k

theorem Inv_start (g0 : Vec F S2x32x6144 .f32) (g1 : Vec F S2x32x128 .f32) (g2 : Vec F S3x32x192 .f32) (g3 : Vec F S2x32x6144 .f32) :
    Inv c fW X2 X3 X4 W6 0 0 g0 g1 g2 g3 where
  pre _ _ h := absurd h (by omega)
  thrA _ _ h := absurd h (by omega)
  thrB _ _ h := absurd h (by omega)
  code _ h := absurd h (by omega)
  part _ h := absurd h (by omega)

/-- The point after `(t, j)`. -/
def nextT (t j : ℕ) : ℕ := if j = 3 then t + 1 else t
def nextJ (j : ℕ) : ℕ := if j = 3 then 0 else j + 1

variable (i : grid0.Coords) (g0 : Vec F S2x32x6144 .f32) (g1 : Vec F S2x32x128 .f32) (g2 : Vec F S3x32x192 .f32) (g3 : Vec F S2x32x6144 .f32)

theorem slot_of (b : Fin 12) (h : b.val = (i 0).val) : wSlot i = b.val % 2 := by rw [wSlot_eq, h]
theorem other_of (b : Fin 12) (h : b.val + 1 = (i 0).val) : wOther i = b.val % 2 := by rw [wOther_eq]; omega
theorem enc_of (b : Fin 12) (h : b.val = (i 0).val) : wEnc i = b.val := by rw [wEnc_eq]; omega
theorem dec_of (b : Fin 12) (h : b.val + 1 = (i 0).val) : wDec i = b.val := by rw [wDec_eq]; omega

theorem got_rSlot_congr {s s' : ℕ} (h : s = s') (hs : s < 2) (hs' : s' < 2) (X : Vec F S2x32x6144 .f32) :
    got (rSlot s hs) X = got (rSlot s' hs') X := by subst h; rfl
theorem got_rThr_congr {s s' : ℕ} (h : s = s') (hs : s < 2) (hs' : s' < 2) (X : Vec F S2x32x128 .f32) :
    got (rThr s hs) X = got (rThr s' hs') X := by subst h; rfl

theorem encode_eq (b : Fin 12) (h : b.val = (i 0).val) : encode c fW i X2 X3 X4 = preOf c fW X2 X3 X4 b := by
  unfold encode preOf
  have e : (⟨wEnc i, wEnc_lt i⟩ : Fin 12) = b := Fin.ext (enc_of i b h)
  rw [slab_eq]
  subst e
  rfl

variable (hI : Inv c fW X2 X3 X4 W6 (i 0).val (i 1).val g0 g1 g2 g3)

include hI in
theorem n0_eq (b : Fin 12) (h : b.val = (i 0).val) : got (rSlot (wSlot i) (wSlot_lt i)) (n0 c fW i X2 X3 X4 g0) = preOf c fW X2 X3 X4 b := by
  unfold n0 g0'
  have h7 := cond7_iff i
  by_cases h0 : k0_cond7 i = 1#1
  · rw [if_pos h0, got_put, encode_eq c fW X2 X3 X4 i b h]
  · rw [if_neg h0, got_rSlot_congr (slot_of i b h) _ (slot_lt _)]
    refine hI.pre b h ?_
    have := b.2
    by_contra hj
    exact h0 (h7.2 ⟨by omega, by omega⟩)

include hI in
theorem n1_thr0 (b : Fin 12) (h : b.val = (i 0).val) (hj : (i 1).val = 1 ∨ (i 1).val = 2) :
    got (rThr (wSlot i) (wSlot_lt i)) (g1' i (n0 c fW i X2 X3 X4 g0) g1) = thr0 (preOf c fW X2 X3 X4 b) := by
  unfold g1'
  have h8 := cond8_iff i
  have := b.2
  by_cases h0 : k0_cond8 i = 1#1
  · rw [if_pos h0, got_put, n0_eq c fW X2 X3 X4 W6 i g0 g1 g2 g3 hI b h]
  · rw [if_neg h0, got_rThr_congr (slot_of i b h) _ (slot_lt _)]
    refine hI.thrA b h ?_
    by_contra hn
    exact h0 (h8.2 ⟨by omega, by omega⟩)

include hI in
theorem n1_of1 (b : Fin 12) (h : b.val = (i 0).val) (hj : (i 1).val = 1) :
    got (rThr (wSlot i) (wSlot_lt i)) (n1 c fW i X2 X3 X4 g0 g1) = thr0 (preOf c fW X2 X3 X4 b) := by
  unfold n1 g1''
  have h9 := cond9_iff i
  rw [if_neg fun e => by have := (h9.1 e.1).2; omega]
  exact n1_thr0 c fW X2 X3 X4 W6 i g0 g1 g2 g3 hI b h (.inl hj)

include hI in
theorem n1_of2 (b : Fin 12) (h : b.val = (i 0).val) (hj : (i 1).val = 2) :
    got (rThr (wSlot i) (wSlot_lt i)) (n1 c fW i X2 X3 X4 g0 g1) = thrOf c fW X2 X3 X4 b := by
  have h9 : k0_cond9 i = 1#1 := (cond9_iff i).2 ⟨by have := b.2; omega, hj⟩
  have e0 := n0_eq c fW X2 X3 X4 W6 i g0 g1 g2 g3 hI b h
  have e1 := n1_thr0 c fW X2 X3 X4 W6 i g0 g1 g2 g3 hI b h (.inr hj)
  unfold n1 g1'' thrOf recheck
  rw [e0, e1]
  by_cases hf : failed (thr0 (preOf c fW X2 X3 X4 b)) (preOf c fW X2 X3 X4 b)
  · rw [if_pos ⟨h9, hf⟩, if_pos hf, got_put]
  · rw [if_neg fun e => hf e.2, if_neg hf, e1]

include hI in
theorem n1_of3 (b : Fin 12) (h : b.val = (i 0).val) (hj : (i 1).val = 3) :
    got (rThr (wSlot i) (wSlot_lt i)) (n1 c fW i X2 X3 X4 g0 g1) = thrOf c fW X2 X3 X4 b := by
  have h9 := cond9_iff i
  have h8 := cond8_iff i
  unfold n1 g1'' g1'
  rw [if_neg fun e => by have := (h9.1 e.1).2; omega, if_neg fun e => by have := (h8.1 e).2; omega,
    got_rThr_congr (slot_of i b h) _ (slot_lt _)]
  exact hI.thrB b h hj

include hI in
theorem n3_code (b : Fin 12) (h : b.val = (i 0).val) (hj : (i 1).val = 3) :
    got (rSlot (wSlot i) (wSlot_lt i)) (n3 c fW i X2 X3 X4 g0 g1 g3) = codeOf c fW X2 X3 X4 b := by
  unfold n3 g3'
  rw [if_pos ((cond11_iff i).2 ⟨by have := b.2; omega, hj⟩), got_put, n0_eq c fW X2 X3 X4 W6 i g0 g1 g2 g3 hI b h,
    n1_of3 c fW X2 X3 X4 W6 i g0 g1 g2 g3 hI b h hj]
  rfl

theorem rSlot_disjoint {s s' : ℕ} (hs : s < 2) (hs' : s' < 2) (h : s ≠ s') : Disjoint (rSlot s hs).set (rSlot s' hs').set :=
  Rect.unit_disjoint (s := S2x32x6144) 0 (by change s + 1 ≤ s' ∨ s' + 1 ≤ s; omega)

include hI in
theorem n3_other (b : Fin 12) (h : b.val + 1 = (i 0).val) :
    got (rSlot (wOther i) (wOther_lt i)) (n3 c fW i X2 X3 X4 g0 g1 g3) = codeOf c fW X2 X3 X4 b := by
  have e : got (rSlot (wOther i) (wOther_lt i)) g3 = codeOf c fW X2 X3 X4 b := by
    rw [got_rSlot_congr (other_of i b h) _ (slot_lt _)]; exact hI.code b h
  unfold n3 g3'
  by_cases h0 : k0_cond11 i = 1#1
  · rw [if_pos h0, got_put_off _ _ _ _ (rSlot_disjoint _ _ (by rw [wOther_eq, wSlot_eq]; omega)), e]
  · rw [if_neg h0, e]

theorem rAcc_disjoint {k k' : ℕ} (hk : k < 3) (hk' : k' < 3) (h : k ≠ k') : Disjoint (rAcc k hk).set (rAcc k' hk').set :=
  Rect.unit_disjoint (s := S3x32x192) 0 (by change k + 1 ≤ k' ∨ k' + 1 ≤ k; omega)

variable (X6 : Vec F S1x192x6144 .f32) (h6 : ∀ b : Fin 12, b.val + 1 = (i 0).val → X6 = W6 b (i 1).val)

include hI h6 in
theorem n2_part (b : Fin 12) (h : b.val + 1 = (i 0).val) (k : ℕ) (hk : k < 3) (hkj : k ≤ (i 1).val) :
    got (rAcc k hk) (g2' i X6 g2 (n3 c fW i X2 X3 X4 g0 g1 g3)) = partOf c fW X2 X3 X4 W6 b k := by
  unfold g2'
  have h12 : k0_cond12 i = 1#1 := (cond12_iff i).2 (by omega)
  have h13 := cond13_iff i
  by_cases hj : (i 1).val < 3
  · rw [dif_pos ⟨h12, h13.2 hj⟩]
    by_cases hkq : k = wQuarter i
    · subst hkq
      rw [got_put, n3_other c fW X2 X3 X4 W6 i g0 g1 g2 g3 hI b h, h6 b h]
      exact congrArg (fun k => k0_pay4 (codeOf c fW X2 X3 X4 b) (W6 b k)) (wQuarter_eq i).symm
    · rw [got_put_off _ _ _ _ (rAcc_disjoint _ _ hkq)]
      exact hI.part b h k hk (by rw [wQuarter_eq] at hkq; omega)
  · rw [dif_neg fun e => hj (h13.1 e.2)]
    exact hI.part b h k hk (by omega)

include hI h6 in
/-- A point takes what the scratch blocks hold before it to what they hold before the next. -/
theorem Inv_next : Inv c fW X2 X3 X4 W6 (nextT (i 0).val (i 1).val) (nextJ (i 1).val) (n0 c fW i X2 X3 X4 g0) (n1 c fW i X2 X3 X4 g0 g1)
    (g2' i X6 g2 (n3 c fW i X2 X3 X4 g0 g1 g3)) (n3 c fW i X2 X3 X4 g0 g1 g3) where
  pre b h hj := by
    unfold nextT at h; unfold nextJ at hj
    by_cases h3 : (i 1).val = 3
    · rw [if_pos h3] at hj; omega
    · rw [if_neg h3] at h
      rw [got_rSlot_congr (slot_of i b h).symm _ (wSlot_lt i)]
      exact n0_eq c fW X2 X3 X4 W6 i g0 g1 g2 g3 hI b h
  thrA b h hj := by
    unfold nextT at h; unfold nextJ at hj
    by_cases h3 : (i 1).val = 3
    · rw [if_pos h3] at hj; omega
    · rw [if_neg h3] at h hj
      rw [got_rThr_congr (slot_of i b h).symm _ (wSlot_lt i)]
      exact n1_of1 c fW X2 X3 X4 W6 i g0 g1 g2 g3 hI b h (by omega)
  thrB b h hj := by
    unfold nextT at h; unfold nextJ at hj
    by_cases h3 : (i 1).val = 3
    · rw [if_pos h3] at hj; omega
    · rw [if_neg h3] at h hj
      rw [got_rThr_congr (slot_of i b h).symm _ (wSlot_lt i)]
      exact n1_of2 c fW X2 X3 X4 W6 i g0 g1 g2 g3 hI b h (by omega)
  code b h := by
    unfold nextT at h
    by_cases h3 : (i 1).val = 3
    · rw [if_pos h3] at h
      rw [got_rSlot_congr (slot_of i b (by omega)).symm _ (wSlot_lt i)]
      exact n3_code c fW X2 X3 X4 W6 i g0 g1 g2 g3 hI b (by omega) h3
    · rw [if_neg h3] at h
      rw [got_rSlot_congr (other_of i b h).symm _ (wOther_lt i)]
      exact n3_other c fW X2 X3 X4 W6 i g0 g1 g2 g3 hI b h
  part b h k hk hkj := by
    unfold nextT at h; unfold nextJ at hkj
    by_cases h3 : (i 1).val = 3
    · rw [if_pos h3] at hkj; omega
    · rw [if_neg h3] at h hkj
      exact n2_part c fW X2 X3 X4 W6 i g0 g1 g2 g3 hI X6 h6 b h k hk (by omega)

include hI h6 in
/-- What a point leaves in the output blocks. -/
theorem o7_eq (b : Fin 12) (h : b.val + 1 = (i 0).val) (X7 : Vec F S1x32x1536 .f32) :
    o7 i X7 (n3 c fW i X2 X3 X4 g0 g1 g3) = quarterOf c fW X2 X3 X4 b (i 1).val (i1_lt i) := by
  unfold o7 quarterOf
  rw [if_pos ((cond12_iff i).2 (by omega)), got_cols, n3_other c fW X2 X3 X4 W6 i g0 g1 g2 g3 hI b h]
  have e : ∀ {k k' : ℕ} (hk : k + 1536 ≤ 6144) (hk' : k' + 1536 ≤ 6144) (U : Vec F S1x32x6144 .f32), k = k' →
      k0_pay2 (got (rCols k hk) U) = k0_pay2 (got (rCols k' hk') U) := by
    intro k k' hk hk' U e; subst e; rfl
  exact e _ _ _ (wCol_eq i)

include hI h6 in
theorem o8_eq (b : Fin 12) (h : b.val + 1 = (i 0).val) (hj : (i 1).val = 3) (X8 : Vec F S1x32x768 .f32) :
    o8 i X3 X6 X8 g2 (n3 c fW i X2 X3 X4 g0 g1 g3) = recOf c fW X2 X3 X4 W6 b := by
  unfold o8 recOf
  have e : (⟨wDec i, wDec_lt i⟩ : Fin 12) = b := Fin.ext (dec_of i b h)
  rw [if_pos ⟨(cond12_iff i).2 (by omega), (cond14_iff i).2 hj⟩, n3_other c fW X2 X3 X4 W6 i g0 g1 g2 g3 hI b h,
    hI.part b h 0 (by decide) (by omega), hI.part b h 1 (by decide) (by omega), hI.part b h 2 (by decide) (by omega), h6 b h, hj]
  subst e; rfl

include hI h6 in
theorem o9_eq (b : Fin 12) (h : b.val + 1 = (i 0).val) (hj : (i 1).val = 3) (X9 : Vec F S1x1x1 .f32) :
    o9 i X2 X3 X6 X9 g2 (n3 c fW i X2 X3 X4 g0 g1 g3) = lossOf c fW X2 X3 X4 W6 b := by
  unfold o9 lossOf
  have e : (⟨wDec i, wDec_lt i⟩ : Fin 12) = b := Fin.ext (dec_of i b h)
  rw [if_pos ⟨(cond12_iff i).2 (by omega), (cond14_iff i).2 hj⟩, n3_other c fW X2 X3 X4 W6 i g0 g1 g2 g3 hI b h,
    hI.part b h 0 (by decide) (by omega), hI.part b h 1 (by decide) (by omega), hI.part b h 2 (by decide) (by omega), h6 b h, hj]
  subst e; rfl

end Cert.KernelIdeal.Prf
-- ==== Proof.Frame.lean ====
module

public import proofs.«01_k».proof.Proof.Inv
public import proofs.«01_k».proof.Proof.Gen.KernelIdeal.Frame
public import Idealize.ShloMosaic.Lib.Pipeline.TableIdle

@[expose] public section

set_option maxRecDepth 65536

noncomputable section

namespace Cert.KernelIdeal.Prf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! # The launch

What the pipeline's windows hold at each point, what the kernel keeps between points, and the run of the whole
program from them. -/

theorem N_eq : cfg0.N = 52 := N_0
theorem point_lt (t : Fin cfg0.N) : t.val < 52 := t.2.trans_eq N_eq
/-- The point with a number. -/
def pointAt (n : ℕ) : Fin cfg0.N := ⟨n % 52, by rw [N_eq]; exact Nat.mod_lt _ (by decide)⟩

/-- The inputs, the encoder's biases and the decoder's as staged, whole at every point; -/
def xAll (c : Dev nD) : Vec F S12x32x768 .f32 := iblk m c 0 (pointAt 0)
def bdAll (c : Dev nD) : Vec F S12x1x768 .f32 := iblk m c 1 (pointAt 0)
def beAll (c : Dev nD) : Vec F S12x1x6144 .f32 := iblk m c 2 (pointAt 0)
/-- the decoder's blocks: a stack's block of 192 rows. -/
def wdBlk (c : Dev nD) (b : Fin 12) (k : ℕ) : Vec F S1x192x6144 .f32 := iblk m c 3 (pointAt (4 * (b.val + 1) + k))
/-- The encoder's weights. -/
def wAll (c : Dev nD) : Buf (Elt F) (lW c) := V m c main_arg2

theorem coords_0 : ∀ t : Fin cfg0.N, (grid0.coords t 0).val = t.val / 4 := by decide +kernel
theorem coords_1 : ∀ t : Fin cfg0.N, (grid0.coords t 1).val = t.val % 4 := by decide +kernel

theorem xAll_eq (c : Dev nD) (t : Fin cfg0.N) : iblk m c 0 t = xAll m c := rfl
theorem bdAll_eq (c : Dev nD) (t : Fin cfg0.N) : iblk m c 1 t = bdAll m c := rfl
theorem beAll_eq (c : Dev nD) (t : Fin cfg0.N) : iblk m c 2 t = beAll m c := rfl

theorem wdBlk_eq (c : Dev nD) (t : Fin cfg0.N) (b : Fin 12) (h : b.val + 1 = (grid0.coords t 0).val) :
    iblk m c 3 t = wdBlk m c b (grid0.coords t 1).val := by
  have e : t = pointAt (4 * (b.val + 1) + (grid0.coords t 1).val) := Fin.ext (by
    change t.val = _ % 52
    have := point_lt t
    rw [h, coords_0, coords_1]; omega)
  unfold wdBlk
  rw [← e]

/-- The stack a point decodes. -/
def stackAt (t : Fin cfg0.N) : Fin 12 := ⟨t.val / 4 - 1, by have := point_lt t; omega⟩

/-- The codes' quarter, the reconstruction and the loss a point leaves. -/
def uOut (c : Dev nD) (t : Fin cfg0.N) : Vec F S1x32x1536 .f32 :=
  quarterOf c (wAll m c) (xAll m c) (bdAll m c) (beAll m c) (stackAt t) (t.val % 4) (Nat.mod_lt _ (by decide))
def xOut (c : Dev nD) (t : Fin cfg0.N) : Vec F S1x32x768 .f32 :=
  recOf c (wAll m c) (xAll m c) (bdAll m c) (beAll m c) (wdBlk m c) (stackAt t)
def lOut (c : Dev nD) (t : Fin cfg0.N) : Vec F S1x1x1 .f32 :=
  lossOf c (wAll m c) (xAll m c) (bdAll m c) (beAll m c) (wdBlk m c) (stackAt t)

/-- What the kernel keeps before the point with a number: its four scratch blocks, its weight ring and the generator. -/
def Kept (c : Dev nD) (n : ℕ) : sProp 𝕄 :=
  iprop(∃ g0 g1 g2 g3, ⌜Inv c (wAll m c) (xAll m c) (bdAll m c) (beAll m c) (wdBlk m c) (n / 4) (n % 4) g0 g1 g2 g3⌝
    ∗ (has c mPre g0 ∗ has c mThr g1 ∗ has c mAcc g2 ∗ has c mU g3) ∗ Ring c (wAll m c) (stA (n / 4) (n % 4)) ∗ ∃ r, prngReg c r)

/-- The run's data: what each window's buffer holds after each point. -/
def dats (_ : Fin 1) (c : Dev nD) : Dat τ (Elt F) Unit ℕ (Pipeline.UD sig nD τ) ℕ cfg0 c where
  A w := V m c (Pipeline.arrRef spec0 w)
  after w t := match w with
    | 0 => iblk m c 0 t | 1 => iblk m c 1 t | 2 => iblk m c 2 t | 3 => iblk m c 3 t
    | 4 => uOut m c t | 5 => xOut m c t | 6 => lOut m c t
    | ⟨_ + 7, h⟩ => absurd h (Nat.not_lt.2 (Nat.le_add_left _ _))
  Φ p := Kept m c p.val
  q _ := fullShare
  owed _ := 0

theorem A_eq (c : Dev nD) (w : Fin cfg0.W) : (dats m 0 c).A w = V m c (Pipeline.arrRef spec0 w) := rfl

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl

theorem quiet_4 : ∀ t : Fin cfg0.N, t.val / 4 = 0 → (cfg0.win 4).flushF t = false := by decide +kernel
theorem quiet_5 : ∀ t : Fin cfg0.N, ¬(1 ≤ t.val / 4 ∧ t.val % 4 = 3) → (cfg0.win 5).flushF t = false := by decide +kernel
theorem quiet_6 : ∀ t : Fin cfg0.N, ¬(1 ≤ t.val / 4 ∧ t.val % 4 = 3) → (cfg0.win 6).flushF t = false := by decide +kernel

/-- What a point leaves in an output window's buffer: what it found, where the window is idle and not written back, and its
    new contents elsewhere. -/
def left (c : Dev nD) (t : Fin cfg0.N) (w : Fin cfg0.W) : sProp 𝕄 :=
  match cfg0.idle w (cfg0.grid.coords t) with
  | true => match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- A window's buffer given back: as found where the window is idle and not written back, at its new contents elsewhere. -/
theorem give_back (c : Dev nD) (w : Fin cfg0.W) (t : Fin cfg0.N) (d) (X)
    (h1 : cfg0.idle w (cfg0.grid.coords t) = true → (cfg0.win w).flush t = false ∧ X = (dats m 0 c).before w t d)
    (h2 : cfg0.idle w (cfg0.grid.coords t) = false → X = (dats m 0 c).after w t) :
    (owns (c : Thread nD τ) ((cfg0.win w).stage (cfg0.slots t w)) fullShare X : sProp 𝕄)
      ⊢ left m c t w := by
  unfold left
  cases hi : cfg0.idle w (cfg0.grid.coords t) with
  | true =>
    obtain ⟨hf, rfl⟩ := h1 hi
    rw [hf]
    iintro H; iexists d; iexact H
  | false => rw [h2 hi]

theorem idle_4 (t : Fin cfg0.N) : (cfg0.idle 4 (cfg0.grid.coords t) = true ↔ t.val / 4 = 0) := by
  have h : (!(k0_cond12 (grid0.coords t) == 1#1)) = true ↔ t.val / 4 = 0 := by
    have h12 := cond12_iff (grid0.coords t)
    rw [coords_0] at h12
    rw [Bool.not_eq_true', beq_eq_false_iff_ne, ne_eq, h12]
    omega
  exact h

theorem idle_both (t : Fin cfg0.N) : (!(k0_cond12 (grid0.coords t) == 1#1 && k0_cond14 (grid0.coords t) == 1#1)) = true
    ↔ ¬(1 ≤ t.val / 4 ∧ t.val % 4 = 3) := by
  have h12 := cond12_iff (grid0.coords t)
  have h14 := cond14_iff (grid0.coords t)
  rw [coords_0] at h12
  rw [coords_1] at h14
  rw [Bool.not_eq_true', Bool.and_eq_false_iff, beq_eq_false_iff_ne, beq_eq_false_iff_ne, ne_eq, ne_eq, h12, h14]
  omega
theorem idle_5 (t : Fin cfg0.N) : (cfg0.idle 5 (cfg0.grid.coords t) = true ↔ ¬(1 ≤ t.val / 4 ∧ t.val % 4 = 3)) := idle_both t
theorem idle_6 (t : Fin cfg0.N) : (cfg0.idle 6 (cfg0.grid.coords t) = true ↔ ¬(1 ≤ t.val / 4 ∧ t.val % 4 = 3)) := idle_both t

theorem wbd_eq (c : Dev nD) (t : Fin cfg0.N) : ∀ b : Fin 12, b.val + 1 = (grid0.coords t 0).val →
    (iblk m c 3 t : Vec F S1x192x6144 .f32) = wdBlk m c b (grid0.coords t 1).val := fun b h => wdBlk_eq m c t b h

theorem stackAt_coords (t : Fin cfg0.N) (h : 1 ≤ t.val / 4) : (stackAt t).val + 1 = (grid0.coords t 0).val := by
  rw [coords_0]; change t.val / 4 - 1 + 1 = _; omega

section Point
variable (c : Dev nD) (t : Fin cfg0.N) (g0 : Vec F S2x32x6144 .f32) (g1 : Vec F S2x32x128 .f32) (g2 : Vec F S3x32x192 .f32) (g3 : Vec F S2x32x6144 .f32)
  (hI : Inv c (wAll m c) (xAll m c) (bdAll m c) (beAll m c) (wdBlk m c) (t.val / 4) (t.val % 4) g0 g1 g2 g3)

include hI in
theorem Inv_at : Inv c (wAll m c) (xAll m c) (bdAll m c) (beAll m c) (wdBlk m c) (grid0.coords t 0).val (grid0.coords t 1).val g0 g1 g2 g3 := by
  rw [coords_0, coords_1]; exact hI

/-- The codes after a point. -/
abbrev u3 : Vec F S2x32x6144 .f32 := n3 c (wAll m c) (grid0.coords t) (xAll m c) (bdAll m c) (beAll m c) g0 g1 g3

include hI in
theorem Inv_succ : Inv c (wAll m c) (xAll m c) (bdAll m c) (beAll m c) (wdBlk m c) ((t.val + 1) / 4) ((t.val + 1) % 4)
    (n0 c (wAll m c) (grid0.coords t) (xAll m c) (bdAll m c) (beAll m c) g0) (n1 c (wAll m c) (grid0.coords t) (xAll m c) (bdAll m c) (beAll m c) g0 g1)
    (g2' (grid0.coords t) (iblk m c 3 t) g2 (u3 m c t g0 g1 g3)) (u3 m c t g0 g1 g3) := by
  have h := Inv_next c (wAll m c) (xAll m c) (bdAll m c) (beAll m c) (wdBlk m c) (grid0.coords t) g0 g1 g2 g3 (Inv_at m c t g0 g1 g2 g3 hI) (iblk m c 3 t)
    (wbd_eq m c t)
  have e0 : nextT (grid0.coords t 0).val (grid0.coords t 1).val = (t.val + 1) / 4 := by
    rw [coords_0, coords_1]; unfold nextT; split <;> omega
  have e1 : nextJ (grid0.coords t 1).val = (t.val + 1) % 4 := by
    rw [coords_1]; unfold nextJ; split <;> omega
  rw [e0, e1] at h
  exact h

include hI in
theorem give_4 (d) :
    (owns (c : Thread nD τ) ((cfg0.win 4).stage (cfg0.slots t 4)) fullShare (o7 (grid0.coords t) ((dats m 0 c).before 4 t d) (u3 m c t g0 g1 g3)) : sProp 𝕄)
      ⊢ left m c t 4 := by
  refine give_back m c 4 t d _ (fun hi => ?_) (fun hi => ?_)
  · have h := (idle_4 t).1 hi
    refine ⟨((cfg0.win 4).flush_eq_flushF t).trans (quiet_4 t h), ?_⟩
    unfold o7
    have h12 := cond12_iff (grid0.coords t)
    rw [coords_0] at h12
    rw [if_neg fun e => by have := h12.1 e; omega]
  · have h : 1 ≤ t.val / 4 := by
      by_contra hn
      rw [(idle_4 t).2 (by omega)] at hi
      cases hi
    refine (o7_eq c (wAll m c) (xAll m c) (bdAll m c) (beAll m c) (wdBlk m c) (grid0.coords t) g0 g1 g2 g3 (Inv_at m c t g0 g1 g2 g3 hI) (iblk m c 3 t)
      (wbd_eq m c t) (stackAt t) (stackAt_coords t h) _).trans ?_
    have e : ∀ (k k' : ℕ) (hk : k < 4) (hk' : k' < 4), k = k' → quarterOf c (wAll m c) (xAll m c) (bdAll m c) (beAll m c) (stackAt t) k hk
        = quarterOf c (wAll m c) (xAll m c) (bdAll m c) (beAll m c) (stackAt t) k' hk' := by
      intro k k' hk hk' e; subst e; rfl
    exact e _ _ _ (Nat.mod_lt _ (by decide)) (coords_1 t)

include hI in
theorem give_5 (d) :
    (owns (c : Thread nD τ) ((cfg0.win 5).stage (cfg0.slots t 5)) fullShare
        (o8 (grid0.coords t) (bdAll m c) (iblk m c 3 t) ((dats m 0 c).before 5 t d) g2 (u3 m c t g0 g1 g3)) : sProp 𝕄)
      ⊢ left m c t 5 := by
  refine give_back m c 5 t d _ (fun hi => ?_) (fun hi => ?_)
  · have h := (idle_5 t).1 hi
    refine ⟨((cfg0.win 5).flush_eq_flushF t).trans (quiet_5 t h), ?_⟩
    unfold o8
    have h12 := cond12_iff (grid0.coords t)
    have h14 := cond14_iff (grid0.coords t)
    rw [coords_0] at h12
    rw [coords_1] at h14
    rw [if_neg fun e => h ⟨h12.1 e.1, h14.1 e.2⟩]
  · have h : 1 ≤ t.val / 4 ∧ t.val % 4 = 3 := by
      by_contra hn
      rw [(idle_5 t).2 hn] at hi
      cases hi
    exact o8_eq c (wAll m c) (xAll m c) (bdAll m c) (beAll m c) (wdBlk m c) (grid0.coords t) g0 g1 g2 g3 (Inv_at m c t g0 g1 g2 g3 hI) (iblk m c 3 t)
      (wbd_eq m c t) (stackAt t) (stackAt_coords t h.1) (by rw [coords_1]; exact h.2) _

include hI in
theorem give_6 (d) :
    (owns (c : Thread nD τ) ((cfg0.win 6).stage (cfg0.slots t 6)) fullShare
        (o9 (grid0.coords t) (xAll m c) (bdAll m c) (iblk m c 3 t) ((dats m 0 c).before 6 t d) g2 (u3 m c t g0 g1 g3)) : sProp 𝕄)
      ⊢ left m c t 6 := by
  refine give_back m c 6 t d _ (fun hi => ?_) (fun hi => ?_)
  · have h := (idle_6 t).1 hi
    refine ⟨((cfg0.win 6).flush_eq_flushF t).trans (quiet_6 t h), ?_⟩
    unfold o9
    have h12 := cond12_iff (grid0.coords t)
    have h14 := cond14_iff (grid0.coords t)
    rw [coords_0] at h12
    rw [coords_1] at h14
    rw [if_neg fun e => h ⟨h12.1 e.1, h14.1 e.2⟩]
  · have h : 1 ≤ t.val / 4 ∧ t.val % 4 = 3 := by
      by_contra hn
      rw [(idle_6 t).2 hn] at hi
      cases hi
    exact o9_eq c (wAll m c) (xAll m c) (bdAll m c) (beAll m c) (wdBlk m c) (grid0.coords t) g0 g1 g2 g3 (Inv_at m c t g0 g1 g2 g3 hI) (iblk m c 3 t)
      (wbd_eq m c t) (stackAt t) (stackAt_coords t h.1) (by rw [coords_1]; exact h.2) _

end Point

/-- The ring after a point is the ring before the next. -/
theorem ring_succ (t : Fin cfg0.N) : (stD (grid0.coords t 0).val (grid0.coords t 1).val) = stA ((t.val + 1) / 4) ((t.val + 1) % 4) := by
  funext s q
  have := point_lt t
  rw [coords_0, coords_1, stD_next _ (by omega) _ (by omega)]
  by_cases h : t.val % 4 = 3
  · rw [if_pos h, show (t.val + 1) / 4 = t.val / 4 + 1 by omega, show (t.val + 1) % 4 = 0 by omega]
  · rw [if_neg h, show (t.val + 1) / 4 = t.val / 4 by omega, show (t.val + 1) % 4 = t.val % 4 + 1 by omega]

/-- A window's buffer at a point. -/
abbrev stg (w : Fin cfg0.W) (t : Fin cfg0.N) := (cfg0.win w).stage (cfg0.slots t w)

/-- What a point is given: what is kept, and the windows' buffers; -/
def bodyPre (c : Dev nD) (t : Fin cfg0.N) : sProp 𝕄 :=
  iprop(Kept m c t.val ∗ (dats m 0 c).owesAt () t.castSucc
    ∗ (∃ d, owns (c : Thread nD τ) (stg 0 t) fullShare ((dats m 0 c).before 0 t d))
    ∗ (∃ d, owns (c : Thread nD τ) (stg 1 t) fullShare ((dats m 0 c).before 1 t d))
    ∗ (∃ d, owns (c : Thread nD τ) (stg 2 t) fullShare ((dats m 0 c).before 2 t d))
    ∗ (∃ d, owns (c : Thread nD τ) (stg 3 t) fullShare ((dats m 0 c).before 3 t d))
    ∗ (∃ d, owns (c : Thread nD τ) (stg 4 t) fullShare ((dats m 0 c).before 4 t d))
    ∗ (∃ d, owns (c : Thread nD τ) (stg 5 t) fullShare ((dats m 0 c).before 5 t d))
    ∗ (∃ d, owns (c : Thread nD τ) (stg 6 t) fullShare ((dats m 0 c).before 6 t d)))
/-- and what it gives back. -/
def bodyPost (c : Dev nD) (t : Fin cfg0.N) : sProp 𝕄 :=
  iprop(Kept m c (t.val + 1) ∗ (dats m 0 c).owesAt () t.succ
    ∗ owns (c : Thread nD τ) (stg 0 t) fullShare (iblk m c 0 t) ∗ owns (c : Thread nD τ) (stg 1 t) fullShare (iblk m c 1 t)
    ∗ owns (c : Thread nD τ) (stg 2 t) fullShare (iblk m c 2 t) ∗ owns (c : Thread nD τ) (stg 3 t) fullShare (iblk m c 3 t)
    ∗ left m c t 4 ∗ left m c t 5 ∗ left m c t 6)

theorem sound_body (c : Dev nD) (t : Fin cfg0.N) :
    bodyPre m c t ⊢ wpB c (body (grid0.coords t) (stg 0 t) (stg 1 t) (stg 2 t) (stg 3 t) (stg 4 t) (stg 5 t) (stg 6 t)) (fun _ => bodyPost m c t) := by
  unfold bodyPre bodyPost Kept
  simp only [before_0, before_1, before_2, before_3]
  iintro ⟨⟨%g0, %g1, %g2, %g3, %hI, ⟨G0, G1, G2, G3⟩, HR, Hg⟩, HO, ⟨%d0, H0⟩, ⟨%d1, H1⟩, ⟨%d2, H2⟩, ⟨%d3, H3⟩, ⟨%d4, H4⟩, ⟨%d5, H5⟩, ⟨%d6, H6⟩⟩
  unfold Dat.owesAt Pipeline.owesWithin
  icases HO with ⟨%W, -, HO⟩
  iapply (wp_body c (wAll m c) (grid0.coords t) (stg 0 t) (stg 1 t) (stg 2 t) (stg 3 t) (stg 4 t) (stg 5 t) (stg 6 t)
    (xAll m c) (bdAll m c) (beAll m c) (iblk m c 3 t) ((dats m 0 c).before 4 t d4) ((dats m 0 c).before 5 t d5) ((dats m 0 c).before 6 t d6)
    g0 g1 g2 g3 (fun _ => bodyPost m c t)) $$ [G0 G1 G2 G3 HR HO H0 H1 H2 H3 H4 H5 H6]
  · rw [coords_0, coords_1]
    isplitl [HR HO]
    · isplitl [HR]; · iexact HR
      iexists W; iexact HO
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [G0]; · iexact G0
    isplitl [G1]; · iexact G1
    isplitl [G2]; · iexact G2
    iexact G3
  rw [ring_succ]
  iintro ⟨⟨HR, ⟨%W', HO⟩⟩, ⟨H0, H1, H2, H3, H4, H5, H6⟩, G0, G1, G2, G3⟩
  unfold bodyPost Kept
  isplitl [G0 G1 G2 G3 HR Hg]
  · iexists _, _, _, _
    isplitr; · ipureintro; exact Inv_succ m c t g0 g1 g2 g3 hI
    isplitl [G0 G1 G2 G3]
    · isplitl [G0]; · iexact G0
      isplitl [G1]; · iexact G1
      isplitl [G2]; · iexact G2
      iexact G3
    isplitl [HR]; · iexact HR
    iexact Hg
  isplitl [HO]
  · unfold Dat.owesAt Pipeline.owesWithin
    iexists W'; isplitr; · ipureintro; exact fun _ _ => Or.inl trivial
    iexact HO
  isplitl [H0]; · iexact H0
  isplitl [H1]; · iexact H1
  isplitl [H2]; · iexact H2
  isplitl [H3]; · iexact H3
  isplitl [H4]; · iapply (give_4 m c t g0 g1 g2 g3 hI d4); iexact H4
  isplitl [H5]; · iapply (give_5 m c t g0 g1 g2 g3 hI d5); iexact H5
  iapply (give_6 m c t g0 g1 g2 g3 hI d6); iexact H6

theorem defs₀_row (t : Fin cfg0.N) :
    defs₀ (F := F) .tc cfg0.body (cfg0.bodyArgs t (cfg0.slots t))
      = body (grid0.coords t) (stg 0 t) (stg 1 t) (stg 2 t) (stg 3 t) (stg 4 t) (stg 5 t) (stg 6 t) := by
  unfold defs₀
  rw [Defs.onTc_tc]
  exact body_eq (grid0.coords t) (stg 0 t) (stg 1 t) (stg 2 t) (stg 3 t) (stg 4 t) (stg 5 t) (stg 6 t) _ _ _ _ _ _ _ _ _ _ _ _ _

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The kernel's own semaphores: its ring's eight. -/
abbrev osem0 : ((_ : Fin 2) × Fin 4) → SemLoc sig := fun x => sem x.1 x.2
theorem ownSemFacts0 : Pipeline.OwnSemFacts spec0 osem0 := by decide
/-- The array it transfers from itself. -/
def H0 : Finset (Ref sig .tc) := {main_arg2}
theorem H0_sub : H0 ⊆ Pipeline.restRefs sig spec0 := by decide

theorem phi_eq (c : Dev nD) :
    (Pipeline.ΦD osem0 spec0 H0 (V m) c : sProp 𝕄)
      = iprop(iprop((∃ f, has c mPre f) ∗ (∃ f, has c mThr f) ∗ (∃ f, has c mAcc f) ∗ (∃ f, has c mU f) ∗ (∃ f : Buf (Elt F) (lBuf c), lBuf c ↦{fullShare} f))
          ∗ (∃ r, prngReg c r) ∗ (bigSep Finset.univ fun s => bigSep Finset.univ fun q => semVal ((c : Thread nD τ), sem s q) 0)
          ∗ (lW c ↦{fullShare} wAll m c)) := by
  rw [Pipeline.ΦD_eq, scopedRest0_eq]
  rw [show (bigSep H0 fun b => (((c.tc : Thread nD τ).loc b) ↦{fullShare} V m c b) : sProp 𝕄) = (lW c ↦{fullShare} wAll m c) from bigSep_singleton]
  rw [show (Pipeline.ownSems0 (Ix := Unit) (Name := ℕ) (U := Pipeline.UD sig nD τ) (Lvl := ℕ) (Val := Elt F) (τ := τ) osem0 c : sProp 𝕄)
    = (bigSep Finset.univ fun s => bigSep Finset.univ fun q => semVal ((c : Thread nD τ), sem s q) 0) from
      Pipeline.bigSep_univ_sigma (fun x : (_ : Fin 2) × Fin 4 => semVal ((c : Thread nD τ), osem0 x) 0)]
  simp only [has, owns_whole]
  rfl

theorem stA_first : stA 0 0 = fun _ _ => .any := by funext s q; revert s q; decide
theorem stA_last : stA 13 0 = fun _ _ => .any := by funext s q; revert s q; decide

theorem phi_in (c : Dev nD) : (Pipeline.ΦD osem0 spec0 H0 (V m) c : sProp 𝕄) ⊢ Kept m c 0 := by
  rw [phi_eq]
  unfold Kept
  iintro ⟨⟨⟨%g0, G0⟩, ⟨%g1, G1⟩, ⟨%g2, G2⟩, ⟨%g3, G3⟩, ⟨%f, HB⟩⟩, Hg, HS, HW⟩
  iexists g0, g1, g2, g3
  isplitr; · ipureintro; exact Inv_start c (wAll m c) (xAll m c) (bdAll m c) (beAll m c) (wdBlk m c) g0 g1 g2 g3
  isplitl [G0 G1 G2 G3]
  · isplitl [G0]; · iexact G0
    isplitl [G1]; · iexact G1
    isplitl [G2]; · iexact G2
    iexact G3
  isplitl [HS HB HW]
  · rw [show stA (0 / 4) (0 % 4) = _ from stA_first]
    iapply (Ring_start c (wAll m c) f)
    isplitl [HS]; · iexact HS
    isplitl [HB]; · iexact HB
    iexact HW
  iexact Hg

theorem phi_out (c : Dev nD) : Kept m c 52 ⊢ (Pipeline.ΦD osem0 spec0 H0 (V m) c : sProp 𝕄) := by
  rw [phi_eq]
  unfold Kept
  rw [show stA (52 / 4) (52 % 4) = _ from stA_last]
  iintro ⟨%g0, %g1, %g2, %g3, -, ⟨G0, G1, G2, G3⟩, HR, Hg⟩
  icases (Ring_stop c (wAll m c) (fun _ => default)) $$ HR with ⟨HS, HB, HW⟩
  isplitl [G0 G1 G2 G3 HB]
  · isplitl [G0]; · iexists g0; iexact G0
    isplitl [G1]; · iexists g1; iexact G1
    isplitl [G2]; · iexists g2; iexact G2
    isplitl [G3]; · iexists g3; iexact G3
    iexact HB
  isplitl [Hg]; · iexact Hg
  isplitl [HS]; · iexact HS
  iexact HW

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem ne_ref {a b : Ref sig .tc} (h : a ≠ b) : (Proc.devRef .tc a : DevRef τ sig) ≠ Proc.devRef .tc b := fun e => StableHlo.devRef_ne_of_ne h e
theorem off_one {a x : Ref sig .tc} (h : a ≠ x) : (Proc.devRef .tc a : DevRef τ sig) ∉ ({Proc.devRef .tc x} : Finset (DevRef τ sig)) :=
  fun e => ne_ref h (Finset.mem_singleton.1 e)
theorem off_two {a x y : Ref sig .tc} (h : a ≠ x) (h' : a ≠ y) :
    (Proc.devRef .tc a : DevRef τ sig) ∉ ({Proc.devRef .tc x, Proc.devRef .tc y} : Finset (DevRef τ sig)) :=
  fun e => (Finset.mem_insert.1 e).elim (ne_ref h) (off_one h')
theorem off_three {a x y z : Ref sig .tc} (h : a ≠ x) (h' : a ≠ y) (h'' : a ≠ z) :
    (Proc.devRef .tc a : DevRef τ sig) ∉ ({Proc.devRef .tc x, Proc.devRef .tc y, Proc.devRef .tc z} : Finset (DevRef τ sig)) :=
  fun e => (Finset.mem_insert.1 e).elim (ne_ref h) (off_two h' h'')

/-- The host lines after the kernel touch its arrays and the other buffers, not the weights it transfers. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  rw [List.mem_singleton] at hops
  subst hops
  refine Pipeline.sub_tailRefsBut _ _ _ op ((List.forall_iff_forall_mem.mp hostOps1_sub) op hop) (fun k => k.elim0) ?_
  intro b hb
  rw [H0, Finset.mem_singleton] at hb
  subst hb
  simp only [hostOps1, List.mem_cons, List.mem_nil_iff, or_false] at hop
  rcases hop with rfl | rfl | rfl | rfl | rfl | rfl
  · exact off_one (by decide)
  · exact off_three (by decide) (by decide) (by decide)
  · exact off_one (by decide)
  · exact off_three (by decide) (by decide) (by decide)
  · exact off_two (by decide) (by decide)
  · exact off_two (by decide) (by decide)

/-- The buffers the host lines write, before the kernel and after it. -/
def wrote0 : List (Ref sig .tc) := [main_call0_v0, main_call0_v1, main_call0_v2]
def wrote1 : List (Ref sig .tc) := [main_call0_cst, main_call0_v4, main_call0_cst_0, main_v0_0, main_v0_1, main_v0_2]

theorem wrote0_only (b : Ref sig .tc) (h : b ∉ wrote0) : ∀ op ∈ (hostOps0 : List (HloOp τ sig (Elt F))), Proc.devRef .tc b ∉ op.writes := by
  intro op hop
  simp only [wrote0, List.mem_cons, List.mem_nil_iff, or_false, not_or] at h
  obtain ⟨h0, h1, h2⟩ := h
  simp only [hostOps0, List.mem_cons, List.mem_nil_iff, or_false] at hop
  rcases hop with rfl | rfl | rfl
  · exact off_one h0
  · exact off_one h1
  · exact off_one h2

theorem wrote1_only (b : Ref sig .tc) (h : b ∉ wrote1) : ∀ op ∈ (hostOps1 : List (HloOp τ sig (Elt F))), Proc.devRef .tc b ∉ op.writes := by
  intro op hop
  simp only [wrote1, List.mem_cons, List.mem_nil_iff, or_false, not_or] at h
  obtain ⟨h0, h1, h2, h3, h4, h5⟩ := h
  simp only [hostOps1, List.mem_cons, List.mem_nil_iff, or_false] at hop
  rcases hop with rfl | rfl | rfl | rfl | rfl | rfl
  · exact off_one h0
  · exact off_one h1
  · exact off_one h2
  · exact off_one h3
  · exact off_one h4
  · exact off_one h5

/-- A buffer no host line before the kernel writes is found as launched; -/
theorem V_kept (c : Dev nD) (b : Ref sig .tc) (h : b ∉ wrote0) : V m c b = m ((c : Thread nD τ).loc b) :=
  StableHlo.after_of_forall_not_mem (b := Proc.devRef .tc b) _ _ (by
    rw [show List.flatten [hostOps0 (F := F)] = hostOps0 from List.append_nil _]; exact wrote0_only b h)

/-- one that no later line writes either, and that is no array of the kernel's, ends as launched. -/
theorem tail_kept (c : Dev nD) (b : Ref sig .tc) (h : b ∉ wrote0) (h' : b ∉ wrote1) (ha : ∀ w, Pipeline.arrRef spec0 w ≠ b) :
    Pipeline.afterTail₀ cfgs (dats m) 0 (V0 m) [hostOps1] c b = m ((c : Thread nD τ).loc b) := by
  unfold Pipeline.afterTail₀
  rw [StableHlo.after_of_forall_not_mem (b := Proc.devRef .tc b) _ _ (by
      rw [show List.flatten [hostOps1 (F := F)] = hostOps1 from List.append_nil _]; exact wrote1_only b h'),
    Pipeline.withArrays_of_ne _ c (V0 m c) _ b ha]
  exact V_kept m c b h

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmain m Variants.none) (hA := A_eq m)
    (hin := phi_in m) (hout := phi_out m)

/-- What a run leaves in the arguments. -/
theorem args_kept {r} (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  have k : ∀ b : Ref sig .tc, b ∈ Pipeline.restRefs sig spec0 → b ∉ wrote0 → b ∉ wrote1 → (∀ w, Pipeline.arrRef spec0 w ≠ b) →
      r.2.mem ((c.tc : Thread nD τ).loc b) = m ((c.tc : Thread nD τ).loc b) :=
    fun b hb h0 h1 ha => ((h c).2 b hb).trans (tail_kept m c b h0 h1 ha)
  ⟨k main_arg0 (by decide) (by decide) (by decide) (by decide), k main_arg1 (by decide) (by decide) (by decide) (by decide),
    k main_arg2 (by decide) (by decide) (by decide) (by decide), k main_arg3 (by decide) (by decide) (by decide) (by decide),
    ((h c).1 3).trans (((dats m 0 c).arrAt_in 3 rfl _).trans (V_kept m c main_arg4 (by decide)))⟩

/-- The arguments end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m h.1, h.2⟩) (run_main m ρ)

end Cert.KernelIdeal.Prf
-- ==== Proof.Same.lean ====
module

public import proofs.«01_k».proof.Defs
public import proofs.«01_k».proof.Proof.Gen.Kernel
public import proofs.«01_k».proof.Proof.Gen.ReferenceIdeal.Run
public import proofs.«01_k».proof.Proof.Frame
public import Idealize.ShloMosaic.Lib.Tactic

@[expose] public section

set_option maxRecDepth 65536

noncomputable section

namespace Cert.Proof

open Idealize.ShloMosaic Idealize.ShloMosaic.TcCoe Idealize.ShloMosaic.Tactic
open Idealize.SL.Sem

/-! # The frames

The kernel and its idealization have one text, so the kernel's frame is the idealization's, read at the hardware's
numbers. -/

/-- The kernel's frame, with `KernelIdeal`'s text at the hardware's numbers. -/
def IdealTextFrame : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The kernel's frame is that statement: the two programs have one text. -/
theorem same_text : Cert.quiescent_Kernel = IdealTextFrame := by
  sl_kernel_rfl

/-- The kernel's frame; -/
theorem frame_kernel : Cert.quiescent_Kernel := by
  rw [same_text]
  exact fun m g _ => Cert.KernelIdeal.Prf.frame m g

/-- its idealization's; -/
theorem frame_ideal : Cert.quiescent_KernelIdeal := fun m g _ => Cert.KernelIdeal.Prf.frame m g

/-- and the reference's: its run keeps its arguments, and it has no semaphore. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

end Cert.Proof
-- ==== Proof.Rank.lean ====
module

public import Idealize.ShloMosaic.PureOps
public import Mathlib.Data.EReal.Basic
public import Mathlib.Order.Interval.Finset.Fin
public import Mathlib.Data.Fintype.Card
public import Mathlib.Algebra.BigOperators.Group.Finset.Basic
public import Mathlib.Algebra.Order.BigOperators.Group.Finset

@[expose] public section

noncomputable section

namespace Cert.Rank

/-! # A row's order and the thresholds that separate its largest entries

Mathematics of one row of extended reals, without any program. `σ` lists the row's positions from the largest entry
to the smallest. -/

variable {n : ℕ}

/-- `σ` lists the positions of `p` from the largest entry to the smallest. -/
structure Ranked (p : Fin n → EReal) (σ : Fin n → Fin n) : Prop where
  bij : Function.Bijective σ
  anti : ∀ i j, i < j → p (σ j) ≤ p (σ i)

/-- Among its first `K` entries, as far down as they are positive, each is larger than the next. -/
def Strict (p : Fin n → EReal) (σ : Fin n → Fin n) (K : ℕ) : Prop :=
  ∀ k k' : Fin n, (k : ℕ) < K → (k' : ℕ) = k + 1 → p (σ k') < p (σ k) ∨ p (σ k) ≤ 0

/-- `θ` separates the first `K` entries from the others, as far as they are positive. -/
def Separates (p : Fin n → EReal) (σ : Fin n → Fin n) (K : ℕ) (θ : EReal) : Prop :=
  ∀ k, 0 < p (σ k) → (θ ≤ p (σ k) ↔ (k : ℕ) < K)

variable {p : Fin n → EReal} {σ : Fin n → Fin n}

theorem Ranked.mono (h : Ranked p σ) {i j : Fin n} (hij : i ≤ j) : p (σ j) ≤ p (σ i) := by
  rcases hij.lt_or_eq with hlt | rfl
  · exact h.anti i j hlt
  · exact le_rfl

/-- A value that more than `k` entries reach is at most the entry of rank `k`. -/
theorem Ranked.le_of_count (h : Ranked p σ) (k : Fin n) {c : EReal} (hc : (k : ℕ) < (Finset.univ.filter fun i => c ≤ p i).card) :
    c ≤ p (σ k) := by
  by_contra hlt
  rw [not_le] at hlt
  refine absurd hc (not_lt.mpr ?_)
  have hs : (Finset.univ.filter fun i => c ≤ p i) ⊆ (Finset.Iio k).image σ := fun i hi => by
    obtain ⟨j, rfl⟩ := h.bij.2 i
    refine Finset.mem_image.mpr ⟨j, Finset.mem_Iio.mpr (not_le.mp fun hk => ?_), rfl⟩
    exact absurd ((Finset.mem_filter.mp hi).2.trans (h.mono hk)) (not_le.mpr hlt)
  exact (Finset.card_le_card hs).trans (Finset.card_image_le.trans_eq (Fin.card_Iio k))

/-- A value that at most `k` entries exceed is at least the entry of rank `k`. -/
theorem Ranked.ge_of_count (h : Ranked p σ) (k : Fin n) {c : EReal} (hc : (Finset.univ.filter fun i => c < p i).card ≤ k) :
    p (σ k) ≤ c := by
  by_contra hlt
  rw [not_le] at hlt
  refine absurd hc (not_le.mpr ?_)
  have hs : (Finset.Iic k).image σ ⊆ (Finset.univ.filter fun i => c < p i) := fun i hi => by
    obtain ⟨j, hj, rfl⟩ := Finset.mem_image.mp hi
    exact Finset.mem_filter.mpr ⟨Finset.mem_univ _, hlt.trans_le (h.mono (Finset.mem_Iic.mp hj))⟩
  have hcard : ((Finset.Iic k).image σ).card = k + 1 := by
    rw [Finset.card_image_of_injective _ h.bij.1, Fin.card_Iic]
  exact (Nat.lt_succ_self _).trans_le (hcard.symm.le.trans (Finset.card_le_card hs))

/-- The last of the first `K` entries separates them; -/
theorem Ranked.separates_last (h : Ranked p σ) {K : ℕ} (hs : Strict p σ (K + 1)) (a b : Fin n) (ha : (a : ℕ) = K) (hb : (b : ℕ) = K + 1) :
    Separates p σ (K + 1) (p (σ a)) := by
  intro k hk
  constructor
  · intro hle
    by_contra hK
    have hbk : b ≤ k := Fin.le_def.mpr (by omega)
    have hak : a ≤ k := Fin.le_def.mpr (by omega)
    rcases hs a b (by omega) (by omega) with h1 | h1
    · exact absurd (hle.trans (h.mono hbk)) (not_le.mpr h1)
    · exact absurd ((h.mono hak).trans h1) (not_le.mpr hk)
  · intro hK
    exact h.mono (Fin.le_def.mpr (by omega))

/-- where it is not positive, so does every value that is not. -/
theorem Ranked.separates_low (h : Ranked p σ) {K : ℕ} (a : Fin n) (ha : (a : ℕ) = K) (h0 : p (σ a) ≤ 0) {θ : EReal} (hθ : θ ≤ 0) :
    Separates p σ (K + 1) θ := by
  intro k hk
  refine ⟨fun _ => ?_, fun _ => hθ.trans hk.le⟩
  by_contra hK
  exact absurd ((h.mono (i := a) (Fin.le_def.mpr (by omega))).trans h0) (not_le.mpr hk)

/-! ## Striking out the largest value again and again -/

/-- The row with every entry that is as large as its largest struck out. -/
def strike (x : Fin n → EReal) (i : Fin n) : EReal := if Finset.univ.sup x ≤ x i then ⊥ else x i

theorem strike_le (x : Fin n → EReal) (i : Fin n) : strike x i ≤ x i := by
  unfold strike
  split_ifs
  · exact bot_le
  · exact le_rfl

/-- After `s` rounds: either exactly the first `s` entries are struck out, all of them positive, or nothing positive
    remains and the entry of rank `K` is not positive. -/
theorem Ranked.struck (h : Ranked p σ) {K : ℕ} (hs : Strict p σ K) (a : Fin n) (ha : (a : ℕ) = K) (s : ℕ) (hsK : s ≤ K) :
    (∀ k, (strike^[s]) p (σ k) = if (k : ℕ) < s then ⊥ else p (σ k)) ∨ (p (σ a) ≤ 0 ∧ ∀ i, (strike^[s]) p i ≤ 0) := by
  induction s with
  | zero => exact .inl fun k => by rw [if_neg (Nat.not_lt_zero _)]; rfl
  | succ s ih =>
    rw [Function.iterate_succ_apply']
    rcases ih (Nat.le_of_succ_le hsK) with hA | ⟨h0, hB⟩
    swap
    · exact .inr ⟨h0, fun i => (strike_le _ i).trans (hB i)⟩
    let b : Fin n := ⟨s, by have := a.2; omega⟩
    let b' : Fin n := ⟨s + 1, by have := a.2; omega⟩
    have hle : ∀ k, (strike^[s]) p (σ k) ≤ p (σ b) := fun k => by
      rw [hA k]
      split_ifs with hk
      · exact bot_le
      · exact h.mono (Fin.le_def.mpr (by change s ≤ k; omega))
    have hb : (strike^[s]) p (σ b) = p (σ b) := by rw [hA b, if_neg (lt_irrefl s)]
    rcases lt_or_ge 0 (p (σ b)) with hpos | hneg
    swap
    · refine .inr ⟨(h.mono (Fin.le_def.mpr (by change s ≤ a; omega))).trans hneg, fun i => ?_⟩
      obtain ⟨k, rfl⟩ := h.bij.2 i
      exact (strike_le _ _).trans ((hle k).trans hneg)
    have hsup : Finset.univ.sup ((strike^[s]) p) = p (σ b) := by
      refine le_antisymm (Finset.sup_le fun i _ => ?_) (hb.symm.le.trans (Finset.le_sup (Finset.mem_univ _)))
      obtain ⟨k, rfl⟩ := h.bij.2 i
      exact hle k
    refine .inl fun k => ?_
    change (if Finset.univ.sup ((strike^[s]) p) ≤ (strike^[s]) p (σ k) then ⊥ else (strike^[s]) p (σ k)) = _
    rw [hsup, hA k]
    rcases lt_trichotomy (k : ℕ) s with hk | hk | hk
    · rw [if_pos hk, if_pos (show (k : ℕ) < s + 1 by omega), ite_self]
    · have e : k = b := Fin.ext hk
      subst e
      rw [if_neg (lt_irrefl s), if_pos le_rfl, if_pos (Nat.lt_succ_self s)]
    · have hlt : p (σ k) < p (σ b) := by
        rcases hs b b' (by change s < K; omega) rfl with h1 | h1
        · exact (h.mono (Fin.le_def.mpr (by change s + 1 ≤ k; omega))).trans_lt h1
        · exact absurd h1 (not_le.mpr hpos)
      rw [if_neg (show ¬ (k : ℕ) < s by omega), if_neg (not_le.mpr hlt), if_neg (by omega)]

/-- The largest value after `K` rounds separates the first `K + 1` entries. -/
theorem Ranked.separates_struck (h : Ranked p σ) {K : ℕ} (hs : Strict p σ (K + 1)) (a b : Fin n) (ha : (a : ℕ) = K) (hb : (b : ℕ) = K + 1) :
    Separates p σ (K + 1) (Finset.univ.sup ((strike^[K]) p)) := by
  rcases h.struck (K := K) (fun k k' hk => hs k k' (by omega)) a ha K le_rfl with hA | ⟨h0, hB⟩
  · have hsup : Finset.univ.sup ((strike^[K]) p) = p (σ a) := by
      refine le_antisymm (Finset.sup_le fun i _ => ?_) ?_
      · obtain ⟨k, rfl⟩ := h.bij.2 i
        rw [hA k]
        split_ifs with hk
        · exact bot_le
        · exact h.mono (Fin.le_def.mpr (by omega))
      · have := hA a
        rw [if_neg (by omega)] at this
        exact this.symm.le.trans (Finset.le_sup (Finset.mem_univ _))
    rw [hsup]
    exact h.separates_last hs a b ha hb
  · exact h.separates_low a ha h0 (Finset.sup_le fun i _ => hB i)

/-! ## Lists of large values -/

/-- One where `c` is reached. -/
def hit (c x : EReal) : ℕ := if c ≤ x then 1 else 0

theorem hit_max_min (c x y : EReal) : hit c (max x y) + hit c (min x y) = hit c x + hit c y := by
  unfold hit
  rcases le_total x y with h | h
  · rw [max_eq_right h, min_eq_left h, Nat.add_comm]
  · rw [max_eq_left h, min_eq_right h]

theorem hit_bot {c : EReal} (hc : ⊥ < c) : hit c ⊥ = 0 := if_neg (not_le.mpr hc)

/-- The value that reaches position `i` of a list. -/
def carry (m : ℕ → EReal) (v : EReal) : ℕ → EReal
  | 0 => v
  | i + 1 => min (m i) (carry m v i)

/-- A list after the first `s` values. -/
def rows (c : ℕ → EReal) : ℕ → ℕ → EReal
  | 0, _ => ⊥
  | s + 1, i => max (rows c s i) (carry (rows c s) (c s) i)

/-- A list falls. -/
theorem rows_anti (c : ℕ → EReal) (s i : ℕ) : rows c s (i + 1) ≤ rows c s i := by
  induction s generalizing i with
  | zero => exact le_rfl
  | succ s ih => exact max_le ((ih i).trans (le_max_left _ _)) ((min_le_left _ _).trans (le_max_left _ _))

theorem insert_count (m : ℕ → EReal) (v c : EReal) (k : ℕ) :
    ∑ i ∈ Finset.range k, hit c (max (m i) (carry m v i)) + hit c (carry m v k) = ∑ i ∈ Finset.range k, hit c (m i) + hit c v := by
  induction k with
  | zero => rfl
  | succ k ih =>
    rw [Finset.sum_range_succ, Finset.sum_range_succ, add_assoc]
    change _ + (_ + hit c (min (m k) (carry m v k))) = _
    rw [hit_max_min, add_comm (hit c (m k)), ← add_assoc, ih, add_assoc, add_comm (hit c v), add_assoc]

/-- A list holds no more entries that reach `c` than were put into it. -/
theorem rows_count (c : ℕ → EReal) {θ : EReal} (hθ : ⊥ < θ) (k s : ℕ) :
    ∑ i ∈ Finset.range k, hit θ (rows c s i) ≤ ∑ t ∈ Finset.range s, hit θ (c t) := by
  induction s with
  | zero => exact (Finset.sum_eq_zero fun i _ => hit_bot hθ).le
  | succ s ih =>
    rw [Finset.sum_range_succ]
    exact (Nat.le_add_right _ _).trans ((insert_count (rows c s) (c s) θ k).le.trans (Nat.add_le_add_right ih _))

/-! ## Removing the largest head again and again -/

variable {L : Type} [Fintype L]

/-- The largest head. -/
def top (a : L → ℕ → EReal) : EReal := Finset.univ.sup fun l => a l 0

/-- The six-deep lists with the largest head removed wherever it stands. -/
def pop (a : L → ℕ → EReal) (l : L) (i : ℕ) : EReal :=
  if a l 0 = top a then (if i = 5 then ⊥ else a l (i + 1)) else a l i

/-- How many entries of the lists reach `c`. -/
def load (c : EReal) (a : L → ℕ → EReal) : ℕ := ∑ l, ∑ i ∈ Finset.range 6, hit c (a l i)

/-- The lists fall. -/
def Falls (a : L → ℕ → EReal) : Prop := ∀ l i, i < 5 → a l (i + 1) ≤ a l i

theorem Falls.popped {a : L → ℕ → EReal} (h : Falls a) : Falls (pop a) := by
  intro l i hi
  unfold pop
  split_ifs with h1 h2 h3
  · exact bot_le
  · exact bot_le
  · omega
  · exact h l (i + 1) (by omega)
  · exact h l i hi

theorem Falls.top_popped {a : L → ℕ → EReal} (h : Falls a) : top (pop a) ≤ top a :=
  Finset.sup_le fun l hl => by
    refine le_trans ?_ (Finset.le_sup (f := fun l => a l 0) hl)
    unfold pop
    split_ifs with h1 h2
    · exact absurd h2 (by decide)
    · exact h l 0 (by decide)
    · exact le_rfl

theorem exists_top [Nonempty L] (a : L → ℕ → EReal) : ∃ l, a l 0 = top a := by
  obtain ⟨l, _, h⟩ := Finset.exists_mem_eq_sup Finset.univ Finset.univ_nonempty fun l => a l 0
  exact ⟨l, h.symm⟩

theorem pop_count [Nonempty L] (a : L → ℕ → EReal) {c : EReal} (hc : ⊥ < c) (hle : c ≤ top a) : load c (pop a) + 1 ≤ load c a := by
  have key : ∀ l, a l 0 = top a → ∑ i ∈ Finset.range 6, hit c (pop a l i) + 1 = ∑ i ∈ Finset.range 6, hit c (a l i) := fun l hl => by
    rw [Finset.sum_range_succ, Finset.sum_range_succ' _ 5]
    have h5 : pop a l 5 = ⊥ := by unfold pop; rw [if_pos hl, if_pos rfl]
    have h0 : hit c (a l 0) = 1 := if_pos (hle.trans_eq hl.symm)
    rw [h5, hit_bot hc, h0, add_zero]
    refine congrArg (· + 1) (Finset.sum_congr rfl fun i hi => ?_)
    have hi5 : i ≠ 5 := (Finset.mem_range.mp hi).ne
    unfold pop
    rw [if_pos hl, if_neg hi5]
  have other : ∀ l, ∑ i ∈ Finset.range 6, hit c (pop a l i) ≤ ∑ i ∈ Finset.range 6, hit c (a l i) := fun l => by
    by_cases hl : a l 0 = top a
    · exact (Nat.le_succ _).trans (key l hl).le
    · refine (Finset.sum_congr rfl fun i _ => ?_).le
      unfold pop
      rw [if_neg hl]
  obtain ⟨l, hl⟩ := exists_top a
  exact Finset.sum_lt_sum (fun l _ => other l) ⟨l, Finset.mem_univ l, Nat.lt_of_succ_le (key l hl).le⟩

theorem Falls.iterate {a : L → ℕ → EReal} (h : Falls a) (s : ℕ) : Falls ((pop^[s]) a) := by
  induction s with
  | zero => exact h
  | succ s ih => rw [Function.iterate_succ_apply']; exact ih.popped

/-- The largest head after `K` removals is reached by more than `K` entries, unless it is minus infinity. -/
theorem Falls.count [Nonempty L] {a : L → ℕ → EReal} (h : Falls a) (K : ℕ) (hc : ⊥ < top ((pop^[K]) a)) : K < load (top ((pop^[K]) a)) a := by
  have tops : ∀ s, top ((pop^[K]) a) ≤ top ((pop^[K - s]) a) := fun s => by
    induction s with
    | zero => exact le_rfl
    | succ s ih =>
      refine ih.trans ?_
      rcases Nat.eq_zero_or_pos (K - s) with e | e
      · rw [show K - (s + 1) = K - s by omega]
      · rw [show K - s = (K - (s + 1)) + 1 by omega, Function.iterate_succ_apply']
        exact (h.iterate _).top_popped
  have loads : ∀ s, s ≤ K → load (top ((pop^[K]) a)) ((pop^[s]) a) + s ≤ load (top ((pop^[K]) a)) a := fun s => by
    induction s with
    | zero => exact fun _ => le_rfl
    | succ s ih =>
      intro hs
      refine le_trans ?_ (ih (Nat.le_of_succ_le hs))
      have := tops (K - s)
      rw [show K - (K - s) = s by omega] at this
      rw [Function.iterate_succ_apply']
      have := pop_count ((pop^[s]) a) hc this
      omega
  have last : 1 ≤ load (top ((pop^[K]) a)) ((pop^[K]) a) := by
    obtain ⟨l, hl⟩ := exists_top ((pop^[K]) a)
    refine le_trans ?_ (Finset.single_le_sum (f := fun l => ∑ i ∈ Finset.range 6, hit (top ((pop^[K]) a)) ((pop^[K]) a l i)) (fun _ _ => Nat.zero_le _) (Finset.mem_univ l))
    refine le_trans ?_ (Finset.single_le_sum (f := fun i => hit (top ((pop^[K]) a)) ((pop^[K]) a l i)) (fun _ _ => Nat.zero_le _) (Finset.mem_range.mpr (show 0 < 6 by decide)))
    exact (if_pos hl.symm.le : hit _ _ = 1).symm.le
  have := loads K le_rfl
  omega

/-- The threshold by lists is at most the entry of rank `K`: the lists hold values of the row, each from a place of its
    own. -/
theorem Ranked.lists_le [Nonempty L] (h : Ranked p σ) (K : ℕ) (a : Fin n) (ha : (a : ℕ) = K) (m : ℕ) (place : L → Fin m → Fin n)
    (inj : ∀ l s l' s', place l s = place l' s' → l = l' ∧ s = s') (c : L → ℕ → EReal) (hc : ∀ l (s : Fin m), c l s = p (place l s)) :
    top ((pop^[K]) fun l => rows (c l) m) ≤ p (σ a) := by
  rcases eq_or_ne (top ((pop^[K]) fun l => rows (c l) m)) ⊥ with hb | hb
  · rw [hb]; exact bot_le
  have hb := bot_lt_iff_ne_bot.mpr hb
  have hF : Falls fun l => rows (c l) m := fun l i _ => rows_anti (c l) m i
  refine h.le_of_count a (ha.trans_lt ((hF.count K hb).trans_le ?_))
  generalize top ((pop^[K]) fun l => rows (c l) m) = θ at hb ⊢
  refine (Finset.sum_le_sum fun l _ => rows_count (c l) hb 6 m).trans ?_
  have e : ∀ l, ∑ t ∈ Finset.range m, hit θ (c l t) = ∑ s : Fin m, hit θ (p (place l s)) := fun l => by
    rw [Finset.sum_range]
    exact Finset.sum_congr rfl fun s _ => by rw [hc]
  rw [Finset.sum_congr rfl fun l _ => e l, ← Finset.sum_product', Finset.univ_product_univ]
  unfold hit
  rw [← Finset.card_filter]
  refine Finset.card_le_card_of_injOn (fun x => place x.1 x.2) (fun x hx => ?_) fun x _ y _ hxy => ?_
  · exact Finset.mem_filter.mpr ⟨Finset.mem_univ _, (Finset.mem_filter.mp hx).2⟩
  · exact Prod.ext (inj _ _ _ _ hxy).1 (inj _ _ _ _ hxy).2

/-- If moreover at most `K` entries exceed it, it separates the first `K + 1`. -/
theorem Ranked.separates_of_count (h : Ranked p σ) {K : ℕ} (hs : Strict p σ (K + 1)) (a b : Fin n) (ha : (a : ℕ) = K) (hb : (b : ℕ) = K + 1)
    {θ : EReal} (hθ : θ ≤ p (σ a)) (hc : (Finset.univ.filter fun i => θ < p i).card ≤ K) : Separates p σ (K + 1) θ := by
  rw [le_antisymm hθ (h.ge_of_count a (hc.trans_eq ha.symm))]
  exact h.separates_last hs a b ha hb

end Cert.Rank
-- ==== Proof.TopK.lean ====
module

public import proofs.«01_k».proof.Proof.Rank
public import Idealize.ShloMosaic.Lib.Pointwise
public import Idealize.ShloMosaic.Lib.SortFacts

@[expose] public section

noncomputable section

namespace Cert.Rank

open Idealize.ShloMosaic

/-! # The largest entries of a matrix' rows, as the operation that takes them lists them -/

/-- The order of a row's positions that a stable sort by the greater entry gives. -/
def order {n : ℕ} (p : Fin n → EReal) : Fin n → Fin n := sortedFrom fun k k' => Ideal.cmpTotal .gt (p k) (p k') == 1#1

theorem before_iff {x y : EReal} : (Ideal.cmpTotal .gt x y == 1#1) = decide (y < x) := by
  rw [Bool.eq_iff_iff, beq_iff_eq, decide_eq_true_iff]
  exact Ideal.cmp_ogt_eq_one _ _

theorem order_ranked {n : ℕ} (p : Fin n → EReal) : Ranked p (order p) where
  bij := ⟨sortedFrom_injective _, sortedFrom_surjective _⟩
  anti i j hij := by
    have h := sortedFrom_noInversion (fun k k' => Ideal.cmpTotal .gt (p k) (p k') == 1#1) (fun k k' => Ideal.cmpTotal .gt (p k) (p k') == 1#1)
      (fun a b hab => by
        rw [before_iff, decide_eq_true_iff] at hab
        rw [before_iff, decide_eq_false_iff_not]
        exact not_lt.mpr hab.le)
      (fun _ _ h => h)
      (fun a b c hab hbc => by
        rw [before_iff, decide_eq_false_iff_not, not_lt] at hab hbc ⊢
        exact hab.trans hbc) i j hij
    rw [before_iff, decide_eq_false_iff_not, not_lt] at h
    exact h

variable {T C K : ℕ}

theorem along_last (r : Fin T) (c k : Fin C) : (ix2 r c : (⟨2, ![T, C]⟩ : Shape).Idx).along 1 k = ix2 r k := by
  funext a
  match a with
  | ⟨0, _⟩ => rfl
  | ⟨1, _⟩ => rfl

/-- A row's `k`-th largest entry and its position, as the operation gives them. -/
theorem topK_apply (h : (⟨2, ![T, C]⟩ : Shape).Slices (fun _ => 0) ⟨2, ![T, K]⟩) (hK : K ≤ C) (x : (⟨2, ![T, C]⟩ : Shape).Idx → EReal) (r : Fin T) (k : Fin K) :
    (Host.topK ⟨2, ![T, K]⟩ 1 (Ideal.cmpTotal .gt) x h).1 (ix2 r k) = x (ix2 r (order (fun i => x (ix2 r i)) (k.castLE hK)))
    ∧ (Host.topK ⟨2, ![T, K]⟩ 1 (Ideal.cmpTotal .gt) x h).2 (ix2 r k) = BitVec.ofNat 32 (order (fun i => x (ix2 r i)) (k.castLE hK)) := by
  have hj : (fun a => ⟨0 + ((ix2 r k : (⟨2, ![T, K]⟩ : Shape).Idx) (a.cast h.1.symm)).val, Nat.lt_of_lt_of_le (Nat.add_lt_add_left (Fin.isLt _) _) (h.2 a)⟩ : (⟨2, ![T, C]⟩ : Shape).Idx)
      = ix2 r (k.castLE hK) := by
    funext a
    match a with
    | ⟨0, _⟩ => exact Fin.ext (Nat.zero_add _)
    | ⟨1, _⟩ => exact Fin.ext (Nat.zero_add _)
  have hb : (fun i i' => Ideal.cmpTotal .gt (x ((ix2 r (k.castLE hK) : (⟨2, ![T, C]⟩ : Shape).Idx).along 1 i)) (x ((ix2 r (k.castLE hK) : (⟨2, ![T, C]⟩ : Shape).Idx).along 1 i')) == 1#1)
      = fun i i' => Ideal.cmpTotal .gt (x (ix2 r i)) (x (ix2 r i')) == 1#1 :=
    funext fun i => funext fun i' => congrArg₂ (fun a b => Ideal.cmpTotal .gt (x a) (x b) == 1#1) (along_last r _ i) (along_last r _ i')
  have hπ := congrArg (fun B => sortedFrom B (k.castLE hK)) hb
  let idx : IVec ⟨2, ![T, C]⟩ 32 := fun i => if hd : 1 < 2 then iotaInDim ⟨2, ![T, C]⟩ 32 ⟨1, hd⟩ i else 0#32
  let S := Host.sort2 ⟨2, ![T, C]⟩ 1 (fun l r : EReal × BitVec 32 => Ideal.cmpTotal .gt l.1 r.1) x idx
  have e1 : S.1 (ix2 r (k.castLE hK)) = x ((ix2 r (k.castLE hK) : (⟨2, ![T, C]⟩ : Shape).Idx).along 1 (sortedFrom (fun i i' => Ideal.cmpTotal .gt (x ((ix2 r (k.castLE hK) : (⟨2, ![T, C]⟩ : Shape).Idx).along 1 i)) (x ((ix2 r (k.castLE hK) : (⟨2, ![T, C]⟩ : Shape).Idx).along 1 i')) == 1#1) (k.castLE hK))) := rfl
  have e2 : S.2 (ix2 r (k.castLE hK)) = idx ((ix2 r (k.castLE hK) : (⟨2, ![T, C]⟩ : Shape).Idx).along 1 (sortedFrom (fun i i' => Ideal.cmpTotal .gt (x ((ix2 r (k.castLE hK) : (⟨2, ![T, C]⟩ : Shape).Idx).along 1 i)) (x ((ix2 r (k.castLE hK) : (⟨2, ![T, C]⟩ : Shape).Idx).along 1 i')) == 1#1) (k.castLE hK))) := rfl
  constructor
  · refine (congrArg S.1 hj).trans (e1.trans (congrArg x ((along_last r _ _).trans (congrArg (ix2 r) hπ))))
  · refine (congrArg S.2 hj).trans (e2.trans ((congrArg idx ((along_last r _ _).trans (congrArg (ix2 r) hπ))).trans ?_))
    rfl

end Cert.Rank
-- ==== Proof.RefCodes.lean ====
module

public import proofs.«01_k».proof.Proof.TopK
public import proofs.«01_k».proof.Proof.Gen.ReferenceIdeal.Read
public import Idealize.ShloMosaic.Lib.ScatterToDense.RefScatter

@[expose] public section

set_option maxRecDepth 16384

noncomputable section

namespace Cert.ReferenceIdeal.Prf

open Idealize.ShloMosaic Idealize.ShloMosaic.TcCoe
open Idealize.ShloMosaic.ScatterToDense
open Cert.ReferenceIdeal Cert.ReferenceIdeal.Gen Cert.ReferenceIdeal.Read Cert.Rank

/-! # The reference's codes

Of each row the 32 largest pre-activations, where they are positive; zero elsewhere. -/

variable (x0 : Vec Ideal S32x12x768 .f32) (x1 : Vec Ideal S12x768 .f32) (x2 : Vec Ideal S12x6144x768 .f32) (x3 : Vec Ideal S12x6144 .f32)

/-- A row of pre-activations. -/
def row (r : Fin 384) (i : Fin 6144) : EReal := val_main_v8 (F := Ideal) x0 x1 x2 x3 (ix2 r i)

theorem values_apply (r : Fin 384) (k : Fin 32) :
    val_main_values (F := Ideal) x0 x1 x2 x3 (ix2 r k) = row x0 x1 x2 x3 r (order (row x0 x1 x2 x3 r) (k.castLE (by decide))) :=
  (topK_apply sliceFits_S384x6144_S384x32 (by decide) (val_main_v8 (F := Ideal) x0 x1 x2 x3) r k).1

theorem indices_apply (r : Fin 384) (k : Fin 32) :
    val_main_indices (F := Ideal) x0 x1 x2 x3 (ix2 r k) = BitVec.ofNat 32 (order (row x0 x1 x2 x3 r) (k.castLE (by decide))) :=
  (topK_apply sliceFits_S384x6144_S384x32 (by decide) (val_main_v8 (F := Ideal) x0 x1 x2 x3) r k).2

/-- An index word that is not negative is not moved. -/
theorem keep_word (n : BitVec 32) {k : ℕ} (hk : k < 2 ^ 31) :
    Scalar.select (IntOp.cmpi .slt (BitVec.ofNat 32 k) 0#32) (IntOp.addi (BitVec.ofNat 32 k) n) (BitVec.ofNat 32 k) = BitVec.ofNat 32 k := by
  rw [WordCmp.cmpi_slt_zero, WordCmp.select_decide, if_neg]
  rw [BitVec.toNat_ofNat, Nat.mod_eq_of_lt (by omega)]
  omega

theorem rows_word (r : Fin 384) (k : Fin 32) : val_main_v26 (F := Ideal) x0 x1 x2 x3 (ix3 r k 0) = BitVec.ofNat 32 r := by
  have h : val_main_v26 (F := Ideal) x0 x1 x2 x3 (ix3 r k 0)
      = Scalar.select (IntOp.cmpi .slt (BitVec.ofNat 32 r) 0#32) (IntOp.addi (BitVec.ofNat 32 r) 384#32) (BitVec.ofNat 32 r) := by
    pointwise [val_main_v26, val_main_v24, val_main_v23, val_main_v17, val_main_v16, val_main_v15, val_main_v14, val_main_v13, val_main_v10, val_main_v9, val_main_c, val_main_c_0]
  exact h.trans (keep_word _ (by omega))

theorem cols_word (r : Fin 384) (k : Fin 32) :
    val_main_v26 (F := Ideal) x0 x1 x2 x3 (ix3 r k 1) = BitVec.ofNat 32 (order (row x0 x1 x2 x3 r) (k.castLE (by decide))) := by
  have h : val_main_v26 (F := Ideal) x0 x1 x2 x3 (ix3 r k 1)
      = Scalar.select (IntOp.cmpi .slt (val_main_indices (F := Ideal) x0 x1 x2 x3 (ix2 r k)) 0#32) (IntOp.addi (val_main_indices (F := Ideal) x0 x1 x2 x3 (ix2 r k)) 6144#32) (val_main_indices (F := Ideal) x0 x1 x2 x3 (ix2 r k)) := by
    pointwise [val_main_v26, val_main_v25, val_main_v22, val_main_v21, val_main_v20, val_main_v19, val_main_v18, val_main_c_1, val_main_c_2]
  rw [h, indices_apply]
  exact keep_word _ (by omega)

theorem relu_apply (r : Fin 384) (k : Fin 32) :
    val_main_v12 (F := Ideal) x0 x1 x2 x3 (ix2 r k) = max (row x0 x1 x2 x3 r (order (row x0 x1 x2 x3 r) (k.castLE (by decide)))) 0 := by
  have h : val_main_v12 (F := Ideal) x0 x1 x2 x3 (ix2 r k) = max (val_main_values (F := Ideal) x0 x1 x2 x3 (ix2 r k)) 0 := by
    pointwise [val_main_v12, val_main_call0_v0, val_main_call0_cst]
  rw [h, values_apply]

/-- The codes of a row, position by position in the row's order. -/
theorem codes_order (r : Fin 384) (k : Fin 6144) :
    val_main_v27 (F := Ideal) x0 x1 x2 x3 (ix2 r (order (row x0 x1 x2 x3 r) k))
      = if (k : ℕ) < 32 then max (row x0 x1 x2 x3 r (order (row x0 x1 x2 x3 r) k)) 0 else 0 := by
  have inj := (order_ranked (row x0 x1 x2 x3 r)).bij.1
  have fill : ∀ ι, val_main_v11 (F := Ideal) ι = (0 : EReal) := fun ι => by pointwise [val_main_v11, val_main_cst]
  have h := scatter_eq_dense (T := 384) (C := 6144) (K := 32) (by decide) scatter_S384x6144_S384x32x2_S384x32_n_01_01_2 rfl rfl rfl (by decide) (by decide)
    (val_main_v11 (F := Ideal)) (val_main_v26 (F := Ideal) x0 x1 x2 x3) (val_main_v12 (F := Ideal) x0 x1 x2 x3)
    (fun ι => val_main_v26 (F := Ideal) x0 x1 x2 x3 (ix3 (ι 0) (ι 1) 1)) (val_main_v12 (F := Ideal) x0 x1 x2 x3) 0 fill
    (fun i k => (congrArg _ (ix3_eq_valueIdx i k 0).symm).trans (rows_word x0 x1 x2 x3 i k))
    (fun i k c _ => by rw [← ix3_eq_valueIdx]) (fun _ _ => rfl) (ix2 r (order (row x0 x1 x2 x3 r) k))
  refine (show val_main_v27 (F := Ideal) x0 x1 x2 x3 (ix2 r (order (row x0 x1 x2 x3 r) k)) = _ from h).trans ?_
  have word : ∀ t : Fin 32, (order (row x0 x1 x2 x3 r) k).val = (val_main_v26 (F := Ideal) x0 x1 x2 x3 (ix3 r t 1)).toNat ↔ k = t.castLE (by decide) := fun t => by
    rw [cols_word, BitVec.toNat_ofNat, Nat.mod_eq_of_lt (by omega), ← Fin.ext_iff]
    exact inj.eq_iff
  rw [ix2_eq_valueIdx]
  rcases dense_lastWinsU (C := 6144) (by decide : 0 < 32) (fun ι : S384x32.Idx => val_main_v26 (F := Ideal) x0 x1 x2 x3 (ix3 (ι 0) (ι 1) 1)) (val_main_v12 (F := Ideal) x0 x1 x2 x3) 0 r (order (row x0 x1 x2 x3 r) k) with ⟨t, ht, -, hv⟩ | ⟨hn, hv⟩
  · have e : k = t.castLE (by decide) := (word t).mp ht
    refine hv.trans ?_
    rw [if_pos (by rw [e]; exact t.2), ← ix2_eq_valueIdx, relu_apply, ← e]
  · refine hv.trans (if_neg fun hk => ?_).symm
    exact hn ⟨k, hk⟩ ((word ⟨k, hk⟩).mpr rfl)

end Cert.ReferenceIdeal.Prf
-- ==== Proof.Ties.lean ====
module

public import proofs.«01_k».proof.Defs
public import proofs.«01_k».proof.Proof.RefCodes

@[expose] public section

set_option maxRecDepth 16384

noncomputable section

namespace Cert.Pre_no_ties.Prf

open Idealize.ShloMosaic

/-! # The precondition

Of every row the 33 largest entries fall strictly, as far down as they are positive. -/

/-- The shape relations the precondition's operations take. -/
instance facts : Cert.Pre_no_ties.Facts where
  bcast_S12x768_S1x12x768_1_2 := by decide
  bcast_S1x12x768_S32x12x768_0_1_2 := by decide
  transposes_S12x6144x32_S32x12x6144_2_0_1 := by decide
  bcast_S12x6144_S1x12x6144_1_2 := by decide
  bcast_S1x12x6144_S32x12x6144_0_1_2 := by decide
  shapeCasts_S32x12x6144_S384x6144 := by decide
  sliceFits_S384x6144_S384x33 := by decide
  slices_S384x33_S384x32_0_0 := by decide
  slices_S384x33_S384x32_0_1 := by decide
  bcast_S_S384x32 := by decide
  dot_S12x6144x768_S32x12x768_S12x6144x32_2_2_1_0_0_1_wf := by decide

end Cert.Pre_no_ties.Prf

namespace Cert.ReferenceIdeal.Prf

open Idealize.ShloMosaic Cert.Rank Cert.Pre_no_ties.Facts
open Cert.Pre_no_ties.Prf

variable (x0 : Vec Ideal Cert.Pre_no_ties.S32x12x768 .f32) (x1 : Vec Ideal Cert.Pre_no_ties.S12x768 .f32) (x2 : Vec Ideal Cert.Pre_no_ties.S12x6144x768 .f32) (x3 : Vec Ideal Cert.Pre_no_ties.S12x6144 .f32)
  (x4 : Vec Ideal Cert.Pre_no_ties.S12x768x6144 .f32)

/-- The 33 largest entries of each row. -/
def largest : FVec Ideal Cert.Pre_no_ties.S384x33 .f32 :=
  (Host.topK Cert.Pre_no_ties.S384x33 1 (FloatOps.cmpfTotal .gt) (Read.val_main_v8 (F := Ideal) x0 x1 x2 x3) sliceFits_S384x6144_S384x33).1

theorem largest_apply (r : Fin 384) (k : Fin 33) :
    largest x0 x1 x2 x3 (ix2 r k) = row x0 x1 x2 x3 r (order (row x0 x1 x2 x3 r) (k.castLE (by decide))) :=
  (topK_apply sliceFits_S384x6144_S384x33 (by decide) (Read.val_main_v8 (F := Ideal) x0 x1 x2 x3) r k).1

/-- The precondition's comparison of neighbours. -/
def falls (v : FVec Ideal Cert.Pre_no_ties.S384x33 .f32) : IVec Cert.Pre_no_ties.S384x32 1 :=
  ori (cmpf .ogt (extractStridedSlice Cert.Pre_no_ties.S384x32 ![0, 0] v slices_S384x33_S384x32_0_0)
      (extractStridedSlice Cert.Pre_no_ties.S384x32 ![0, 1] v slices_S384x33_S384x32_0_1))
    (cmpf .ole (extractStridedSlice Cert.Pre_no_ties.S384x32 ![0, 0] v slices_S384x33_S384x32_0_0)
      (broadcastInDim Cert.Pre_no_ties.S384x32 ![] bcast_S_S384x32 (constant (F := Ideal) Cert.Pre_no_ties.S_ .f32 0x00000000#32)))

theorem fn_eq : Cert.Pre_no_ties.fn (F := Ideal) x0 x1 x2 x3 x4 = falls (largest x0 x1 x2 x3) := rfl

theorem or_bit (P Q : Prop) [Decidable P] [Decidable Q] (h : BitVec.ofBool (decide P) ||| BitVec.ofBool (decide Q) = 1#1) : P ∨ Q := by
  by_cases hP : P
  · exact .inl hP
  · by_cases hQ : Q
    · exact .inr hQ
    · rw [decide_eq_false hP, decide_eq_false hQ] at h
      exact absurd h (by decide)

theorem falls_apply (v : FVec Ideal Cert.Pre_no_ties.S384x33 .f32) (r : Fin 384) (k : Fin 32) (h : falls v (ix2 r k) = 1#1) :
    v (ix2 r k.succ) < v (ix2 r k.castSucc) ∨ v (ix2 r k.castSucc) ≤ (0 : EReal) := by
  have e : falls v (ix2 r k) = BitVec.ofBool (decide (v (ix2 r k.succ) < v (ix2 r k.castSucc))) ||| BitVec.ofBool (decide (v (ix2 r k.castSucc) ≤ (0 : EReal))) := by
    pointwise [falls]
    have e : (⟨1 + k.val, by omega⟩ : Fin 33) = k.succ := Fin.ext (Nat.add_comm _ _)
    rw [e]
    rfl
  exact or_bit _ _ (e.symm.trans h)

/-- The precondition says of every row that its order falls strictly. -/
theorem strict_of_pre (h : Cert.Pre_no_ties.fn (F := Ideal) x0 x1 x2 x3 x4 = fun _ => 1#1) (r : Fin 384) :
    Strict (row x0 x1 x2 x3 r) (order (row x0 x1 x2 x3 r)) 32 := by
  rw [fn_eq] at h
  intro i j hi hij
  have := falls_apply _ r ⟨i, hi⟩ (congrFun h _)
  rw [largest_apply, largest_apply] at this
  have ei : (⟨i.val, hi⟩ : Fin 32).castSucc.castLE (by decide) = i := rfl
  have ej : (⟨i.val, hi⟩ : Fin 32).succ.castLE (by decide) = j := Fin.ext hij.symm
  rwa [ei, ej] at this

end Cert.ReferenceIdeal.Prf
-- ==== Proof.Inputs.lean ====
module

public import proofs.«01_k».proof.Proof.Frame
public import Idealize.ShloMosaic.Lib.Pointwise
public import Idealize.ShloMosaic.Lib.Pipeline.ValueKit

@[expose] public section

set_option maxRecDepth 16384

noncomputable section

namespace Cert.KernelIdeal.Prf

open Idealize.ShloMosaic Idealize.ShloMosaic.TcCoe
open Cert.KernelIdeal Cert.KernelIdeal.Gen

/-! # The kernel's inputs, entry by entry, as the arguments -/

variable {F : FTy → Type} [FloatOps F]
variable (m : (ℓ : Loc nD τ sig) → Buf (Elt F) ℓ) (c : Dev nD)

/-- The arguments: the inputs, the decoder's biases, the encoder's weights and biases, the decoder's weights. -/
def argX : Vec F S32x12x768 .f32 := m ((c : Thread nD τ).loc main_arg0)
def argBd : Vec F S12x768 .f32 := m ((c : Thread nD τ).loc main_arg1)
def argW : Vec F S12x6144x768 .f32 := m ((c : Thread nD τ).loc main_arg2)
def argBe : Vec F S12x6144 .f32 := m ((c : Thread nD τ).loc main_arg3)
def argWd : Vec F S12x768x6144 .f32 := m ((c : Thread nD τ).loc main_arg4)

/-- The arrays the host lines stage. -/
theorem V_x : V m c main_call0_v0 = transpose S12x32x768 [1, 0, 2] (argX m c) transposes_S32x12x768_S12x32x768_1_0_2 := rfl
theorem V_bd : V m c main_call0_v1 = broadcastInDim S12x1x768 ![0, 2] bcast_S12x768_S12x1x768_0_2 (argBd m c) := rfl
theorem V_be : V m c main_call0_v2 = broadcastInDim S12x1x6144 ![0, 2] bcast_S12x6144_S12x1x6144_0_2 (argBe m c) := rfl
theorem V_wd : V m c main_arg4 = argWd m c := V_kept m c main_arg4 (by decide)

/-- The blocks of the input windows. -/
theorem in_blocks : ∀ t : Fin cfg0.N, win0_0.index t = ![0, 0, 0] ∧ win0_1.index t = ![0, 0, 0] ∧ win0_2.index t = ![0, 0, 0]
    ∧ (4 ≤ t.val → win0_3.index t = ![t.val / 4 - 1, t.val % 4, 0]) :=
  (by decide +kernel : ∀ t : Fin grid0.N, _)

theorem xAll_apply (b : Fin 12) (r : Fin 32) (d : Fin 768) : xAll m c (ix3 b r d) = argX m c (ix3 r b d) := by
  have e : xAll m c (ix3 b r d) = V m c main_call0_v0 (ix3 b r d) := by
    unfold xAll
    blk_ext [iblk, in_blocks]
  rw [e, V_x]
  pointwise

theorem bdAll_apply (b : Fin 12) (d : Fin 768) : bdAll m c (ix3 b 0 d) = argBd m c (ix2 b d) := by
  have e : bdAll m c (ix3 b 0 d) = V m c main_call0_v1 (ix3 b 0 d) := by
    unfold bdAll
    blk_ext [iblk, in_blocks]
  rw [e, V_bd]
  pointwise

theorem beAll_apply (b : Fin 12) (i : Fin 6144) : beAll m c (ix3 b 0 i) = argBe m c (ix2 b i) := by
  have e : beAll m c (ix3 b 0 i) = V m c main_call0_v2 (ix3 b 0 i) := by
    unfold beAll
    blk_ext [iblk, in_blocks]
  rw [e, V_be]
  pointwise

theorem wdBlk_apply (b : Fin 12) (k : ℕ) (hk : k < 4) (e : Fin 192) (i : Fin 6144) :
    wdBlk m c b k (ix3 0 e i) = argWd m c (ix3 b ⟨192 * k + e.val, by omega⟩ i) := by
  rw [← V_wd]
  unfold wdBlk
  have ht : (pointAt (4 * (b.val + 1) + k)).val = 4 * (b.val + 1) + k := Nat.mod_eq_of_lt (by omega)
  have hi := (in_blocks (pointAt (4 * (b.val + 1) + k))).2.2.2 (by omega)
  rw [ht, show (4 * (b.val + 1) + k) / 4 - 1 = b.val by omega, show (4 * (b.val + 1) + k) % 4 = k by omega] at hi
  blk_ext [iblk, hi]

theorem slab_apply (b : Fin 12) (i : Fin 6144) (k : Fin 768) : slab c (wAll m c) b (ix3 0 i k) = argW m c (ix3 b i k) := by
  have e : V m c main_arg2 = argW m c := V_kept m c main_arg2 (by decide)
  rw [← e]
  unfold slab wbuf
  refine congrArg (wAll m c : S12x6144x768.Idx → Elt F .f32) (funext fun a => ?_)
  match a with
  | ⟨0, _⟩ => rfl
  | ⟨1, _⟩ => exact Fin.ext ((Nat.zero_add _).trans (Nat.one_mul _))
  | ⟨2, _⟩ => exact Fin.ext ((Nat.zero_add _).trans (Nat.one_mul _))

end Cert.KernelIdeal.Prf
-- ==== Proof.Ker.lean ====
module

public import proofs.«01_k».proof.Proof.Inv
public import proofs.«01_k».proof.Proof.Rank
public import Idealize.ShloMosaic.Lib.Pointwise

@[expose] public section

set_option maxRecDepth 16384

noncomputable section

namespace Cert.KernelIdeal.Prf

open Idealize.ShloMosaic Idealize.ShloMosaic.TcCoe
open Cert.KernelIdeal Cert.KernelIdeal.Gen

/-! # What the body computes, entry by entry, over the extended reals -/

theorem pre_apply (x : FVec Ideal S1x32x768 .f32) (bd : FVec Ideal S1x1x768 .f32) (w : FVec Ideal S1x6144x768 .f32) (be : FVec Ideal S1x1x6144 .f32) (r : Fin 32) (i : Fin 6144) :
    k0_pay941 (F := Ideal) x bd w be (ix3 0 r i)
      = (∑ k : Fin 768, (x (ix3 0 r k) - bd (ix3 0 0 k)) * w (ix3 0 i k)) + be (ix3 0 0 i) := by
  pointwise [k0_pay941]

/-- The pattern of minus infinity. -/
theorem ninf : Ideal.ofBits .f32 0xFF800000#32 = ⊥ := by simp [Ideal.ofBits, Ideal.ieee]

/-- The pattern of 31. -/
theorem thirty_one : Ideal.ofBits .f32 0x41F80000#32 = ((31 : ℕ) : EReal) := by
  rw [show ((31 : ℕ) : EReal) = ((31 : ℝ) : EReal) by norm_cast]
  simp [Ideal.ofBits, Ideal.ieee, -EReal.coe_mul]; norm_num

/-- A maximum taken from minus infinity is a supremum. -/
theorem fold_sup {ι : Type} [Fintype ι] (f : ι → EReal) : Finset.univ.fold max (Ideal.ofBits .f32 0xFF800000#32) f = Finset.univ.sup f := by
  rw [ninf]; rfl

/-- A comparison bit as a number. -/
theorem bit_number (P : Prop) [Decidable P] :
    (FloatOps.sitofp .f32 (BitVec.setWidth 32 (BitVec.ofBool (decide P))) : Ideal .f32) = if P then (1 : EReal) else 0 := by
  by_cases h : P
  · rw [if_pos h, decide_eq_true h]; simp [FloatOps.sitofp]
  · rw [if_neg h, decide_eq_false h]; simp [FloatOps.sitofp]

theorem col1_apply (y : Vec Ideal S1x32x128 .f32) (r : Fin 32) : got (F := Ideal) (e := .f32) rCol1 y (ix3 0 r 0) = y (ix3 0 r 0) := by
  refine congrArg y (funext fun a => ?_)
  match a with
  | ⟨0, _⟩ => rfl
  | ⟨1, _⟩ => exact Fin.ext ((Nat.zero_add _).trans (Nat.one_mul _))
  | ⟨2, _⟩ => rfl

theorem codes_apply (y : Vec Ideal S1x32x128 .f32) (p : Vec Ideal S1x32x6144 .f32) (r : Fin 32) (i : Fin 6144) :
    codes (F := Ideal) y p (ix3 0 r i) = if y (ix3 0 r 0) ≤ p (ix3 0 r i) then max (p (ix3 0 r i)) 0 else (0 : EReal) := by
  have e : codes (F := Ideal) y p (ix3 0 r i) = if got (F := Ideal) (e := .f32) rCol1 y (ix3 0 r 0) ≤ p (ix3 0 r i) then max (p (ix3 0 r i)) 0 else (0 : EReal) := by
    pointwise [codes, k0_pay1]
  rw [e, col1_apply]

theorem top_apply (p q : ℕ → FVec Ideal S32x128 .f32) (r : Fin 32) :
    top (F := Ideal) p q (ix2 r 0) = Finset.univ.sup fun l : Fin 128 => max (p 0 (ix2 r l)) (q 0 (ix2 r l)) := by
  pointwise [top]
  exact fold_sup _

theorem low_apply (i : S32x128.Idx) : low (F := Ideal) i = (⊥ : EReal) := ninf

theorem pop_apply (m : FVec Ideal S32x1 .f32) (p : ℕ → FVec Ideal S32x128 .f32) (i : ℕ) (r : Fin 32) (l : Fin 128) :
    pop (F := Ideal) m p i (ix2 r l) = if p 0 (ix2 r l) = m (ix2 r 0) then (if i = 5 then ⊥ else p (i + 1) (ix2 r l)) else p i (ix2 r l) := by
  pointwise [pop]
  by_cases h : i = 5
  · simp only [h, beq_self_eq_true, cond_true, if_true, low_apply]
  · simp only [beq_eq_false_iff_ne.2 h, cond_false, if_neg h]

theorem flat_apply (x : FVec Ideal S1x32x128 .f32) (r : Fin 32) (l : Fin 128) : flat (F := Ideal) x (ix2 r l) = x (ix3 0 r l) := by
  pointwise [flat]

theorem spread_apply (x : FVec Ideal S32x1 .f32) (r : Fin 32) (l : Fin 128) : spread (F := Ideal) x (ix3 0 r l) = x (ix2 r 0) := by
  pointwise [spread]

theorem column_apply (x : FVec Ideal S1x32x1 .f32) (r : Fin 32) : column (F := Ideal) x (ix2 r 0) = x (ix3 0 r 0) := by
  pointwise [column]

theorem tally_apply (thr : FVec Ideal S32x1 .f32) (c : ℕ → FVec Ideal S1x32x128 .f32) (r : Fin 32) (l : Fin 128) (n : ℕ) :
    tally (F := Ideal) thr c n (ix2 r l) = ∑ k ∈ Finset.range n, if thr (ix2 r 0) < c k (ix3 0 r l) then (1 : EReal) else 0 := by
  induction n with
  | zero => pointwise [tally]; rfl
  | succ n ih =>
    rw [Finset.sum_range_succ, ← ih, ← bit_number]
    pointwise [tally, flat]

theorem excess_apply (thr : FVec Ideal S32x1 .f32) (c : ℕ → FVec Ideal S1x32x128 .f32) :
    excess (F := Ideal) thr c = Finset.univ.sup fun r : Fin 32 => ∑ l : Fin 128, tally (F := Ideal) thr c 48 (ix2 r l) := by
  pointwise [excess]
  exact fold_sup _

theorem strike_apply (x : FVec Ideal S32x6144 .f32) (r : Fin 32) (i : Fin 6144) :
    k0_pay944 (F := Ideal) x (ix2 r i) = Rank.strike (fun i => x (ix2 r i)) i := by
  pointwise [k0_pay944]
  rw [fold_sup, ninf]
  rfl

theorem slow_apply (x : FVec Ideal S32x6144 .f32) (r : Fin 32) (l : Fin 128) :
    k0_pay945 (F := Ideal) x (ix3 0 r l) = Finset.univ.sup fun i : Fin 6144 => x (ix2 r i) := by
  pointwise [k0_pay945]
  exact fold_sup _

theorem plain_apply (x : FVec Ideal S1x32x6144 .f32) (r : Fin 32) (i : Fin 6144) : k0_pay943 (F := Ideal) x (ix2 r i) = x (ix3 0 r i) := by
  pointwise [k0_pay943]

/-! ## The searches, row by row -/

theorem carry_apply (m : ℕ → FVec Ideal S32x128 .f32) (v : FVec Ideal S32x128 .f32) (x : S32x128.Idx) (i : ℕ) :
    carry (F := Ideal) m v i x = Rank.carry (fun k => m k x) (v x) i := by
  induction i with
  | zero => rfl
  | succ i ih => exact congrArg (min (m i x)) ih

theorem rows_apply (c : ℕ → FVec Ideal S32x128 .f32) (x : S32x128.Idx) (s : ℕ) :
    ∀ i, rows (F := Ideal) c s i x = Rank.rows (fun k => c k x) s i := by
  induction s with
  | zero => exact fun i => low_apply x
  | succ s ih =>
    intro i
    have e : (fun k => rows (F := Ideal) c s k x) = Rank.rows (fun k => c k x) s := funext ih
    exact congrArg₂ max (ih i) ((carry_apply _ _ x i).trans (congrArg (fun m => Rank.carry m (c s x) i) e))

/-- A row's lists: one for each lane of each half of its blocks. -/
def heads (p q : ℕ → FVec Ideal S32x128 .f32) (r : Fin 32) (l : Bool × Fin 128) (i : ℕ) : EReal := (bif l.1 then q else p) i (ix2 r l.2)

theorem heads_top (p q : ℕ → FVec Ideal S32x128 .f32) (r : Fin 32) : top (F := Ideal) p q (ix2 r 0) = Rank.top (heads p q r) := by
  rw [top_apply]
  refine le_antisymm (Finset.sup_le fun l _ => max_le ?_ ?_) (Finset.sup_le fun l _ => ?_)
  · exact Finset.le_sup (f := fun l => heads p q r l 0) (Finset.mem_univ (false, l))
  · exact Finset.le_sup (f := fun l => heads p q r l 0) (Finset.mem_univ (true, l))
  · refine le_trans ?_ (Finset.le_sup (f := fun l : Fin 128 => max (p 0 (ix2 r l)) (q 0 (ix2 r l))) (Finset.mem_univ l.2))
    obtain ⟨g, l⟩ := l
    cases g
    · exact le_max_left _ _
    · exact le_max_right _ _

theorem pops_apply (p q : ℕ → FVec Ideal S32x128 .f32) (r : Fin 32) (s : ℕ) :
    heads (pops (F := Ideal) p q s false) (pops p q s true) r = Rank.pop^[s] (heads p q r) := by
  induction s with
  | zero => rfl
  | succ s ih =>
    rw [Function.iterate_succ_apply', ← ih]
    funext l i
    obtain ⟨g, l⟩ := l
    have e : heads (pops (F := Ideal) p q (s + 1) false) (pops p q (s + 1) true) r (g, l) i
        = pop (F := Ideal) (top (pops p q s false) (pops p q s true)) (pops p q s g) i (ix2 r l) := by cases g <;> rfl
    have e' : ∀ k, heads (pops (F := Ideal) p q s false) (pops p q s true) r (g, l) k = pops p q s g k (ix2 r l) := fun k => by cases g <;> rfl
    rw [e, pop_apply, heads_top]
    unfold Rank.pop
    rw [e', e', e']

theorem dropped_apply (x : FVec Ideal S32x6144 .f32) (r : Fin 32) (n : ℕ) :
    (fun i => dropped (F := Ideal) x n (ix2 r i)) = Rank.strike^[n] fun i => x (ix2 r i) := by
  induction n with
  | zero => rfl
  | succ n ih =>
    rw [Function.iterate_succ_apply', ← ih]
    exact funext fun i => strike_apply _ r i

end Cert.KernelIdeal.Prf
-- ==== Proof.KerCodes.lean ====
module

public import proofs.«01_k».proof.Proof.Ker

@[expose] public section

set_option maxRecDepth 16384

noncomputable section

namespace Cert.KernelIdeal.Prf

open Idealize.ShloMosaic Idealize.ShloMosaic.TcCoe
open Cert.KernelIdeal Cert.KernelIdeal.Gen

/-! # A row's codes keep its 32 largest entries

Whichever search supplies the threshold, it separates the first 32 entries of a row from the others. -/

variable (p : Vec Ideal S1x32x6144 .f32) (r : Fin 32)

/-- A row of the pre-activations. -/
def rowOf (i : Fin 6144) : EReal := p (ix3 0 r i)

theorem blocks_apply (k : ℕ) (hk : k < 48) (l : Fin 128) : blocks (F := Ideal) p k (ix3 0 r l) = rowOf p r ⟨128 * k + l, by omega⟩ := by
  unfold blocks
  rw [dif_pos hk]
  refine congrArg p (funext fun a => ?_)
  match a with
  | ⟨0, _⟩ => rfl
  | ⟨1, _⟩ => exact Fin.ext ((Nat.zero_add _).trans (Nat.one_mul _))
  | ⟨2, _⟩ => exact Fin.ext (congrArg (128 * k + ·) (Nat.one_mul _))

/-- Where entry `s` of a lane's list input lies in the row. -/
def place (l : Bool × Fin 128) (s : Fin 24) : Fin 6144 :=
  ⟨128 * (bif l.1 then 24 + s.val else s.val) + l.2.val, by have := l.2.2; have := s.2; cases l.1 <;> simp only [cond_true, cond_false] <;> omega⟩

theorem place_inj (l : Bool × Fin 128) (s : Fin 24) (l' : Bool × Fin 128) (s' : Fin 24) (h : place l s = place l' s') : l = l' ∧ s = s' := by
  obtain ⟨g, l⟩ := l
  obtain ⟨g', l'⟩ := l'
  have h : 128 * (bif g then 24 + s.val else s.val) + l.val = 128 * (bif g' then 24 + s'.val else s'.val) + l'.val := congrArg Fin.val h
  have := l.2; have := l'.2; have := s.2; have := s'.2
  have e : g = g' ∧ l.val = l'.val ∧ s.val = s'.val := by
    cases g <;> cases g' <;> simp only [cond_true, cond_false] at h <;> simp only [true_and, reduceCtorEq, false_and] <;> omega
  exact ⟨Prod.ext e.1 (Fin.ext e.2.1), Fin.ext e.2.2⟩

/-- What a lane's list is made of. -/
def laneIn (l : Bool × Fin 128) (s : ℕ) : EReal := blocks (F := Ideal) p (bif l.1 then 24 + s else s) (ix3 0 r l.2)

theorem heads_lists : heads (lists (F := Ideal) (blocks p) false) (lists (blocks p) true) r = fun l => Rank.rows (laneIn p r l) 24 := by
  funext l i
  obtain ⟨g, l⟩ := l
  have e : heads (lists (F := Ideal) (blocks p) false) (lists (blocks p) true) r (g, l) i = lists (F := Ideal) (blocks p) g i (ix2 r l) := by cases g <;> rfl
  rw [e]
  unfold lists
  rw [rows_apply]
  refine congrArg (fun c => Rank.rows c 24 i) (funext fun s => ?_)
  exact flat_apply _ r l

variable {p r} {σ : Fin 6144 → Fin 6144}

/-- The lists' threshold does not exceed the entry of rank 31. -/
theorem quick_le (h : Rank.Ranked (rowOf p r) σ) : thr0 (F := Ideal) p (ix3 0 r 0) ≤ rowOf p r (σ 31) := by
  unfold thr0 quick
  rw [spread_apply, heads_top, pops_apply, heads_lists]
  refine h.lists_le 31 31 rfl 24 place place_inj _ fun l s => ?_
  obtain ⟨g, l⟩ := l
  have := s.2
  cases g <;> exact blocks_apply p r _ (by simp only [cond_true, cond_false]; omega) l

/-- The count of a row. -/
theorem row_count (thr : FVec Ideal S32x1 .f32) :
    (∑ l : Fin 128, tally (F := Ideal) thr (blocks p) 48 (ix2 r l)) = ((Finset.univ.filter fun i => thr (ix2 r 0) < rowOf p r i).card : EReal) := by
  have e : ∀ l : Fin 128, tally (F := Ideal) thr (blocks p) 48 (ix2 r l)
      = ∑ k : Fin 48, if thr (ix2 r 0) < rowOf p r ⟨k.val * 128 + l.val, by omega⟩ then (1 : EReal) else 0 := by
    intro l
    rw [tally_apply, Finset.sum_range]
    refine Finset.sum_congr rfl fun k _ => ?_
    have e : (⟨128 * k.val + l.val, by omega⟩ : Fin 6144) = ⟨k.val * 128 + l.val, by omega⟩ := Fin.ext (congrArg (· + l.val) (Nat.mul_comm _ _))
    rw [blocks_apply p r k k.2 l, e]
  rw [Finset.sum_congr rfl fun l _ => e l, Finset.sum_comm,
    ← Fin.sum_univ_tiles 48 128 (by decide) fun i : Fin 6144 => if thr (ix2 r 0) < rowOf p r i then (1 : EReal) else 0, Finset.sum_boole]

/-- More than 31 is reported. -/
theorem bad_of (x : Ideal .f32) (h : ((31 : ℕ) : EReal) < x) :
    Scalar.cmpi .ne (Scalar.extui (Scalar.cmpf .ogt x (Scalar.ofBits .f32 0x41F80000#32)) : BitVec 32) 0#32 = 1#1 := by
  have h1 : (Scalar.cmpf .ogt x (Scalar.ofBits .f32 0x41F80000#32) : BitVec 1) = 1#1 := (Ideal.cmp_ogt_eq_one _ _).2 (thirty_one.trans_lt h)
  rw [h1]
  rfl

/-- A check that passes bounds every row's count. -/
theorem count_of_not_bad (thr : FVec Ideal S32x1 .f32) (hf : ¬ bad (F := Ideal) thr (blocks p) = 1#1) :
    (Finset.univ.filter fun i => thr (ix2 r 0) < rowOf p r i).card ≤ 31 := by
  have hx : excess (F := Ideal) thr (blocks p) ≤ ((31 : ℕ) : EReal) := not_lt.mp fun h => hf (bad_of _ h)
  rw [excess_apply] at hx
  have hr := (Finset.le_sup (f := fun r : Fin 32 => ∑ l : Fin 128, tally (F := Ideal) thr (blocks p) 48 (ix2 r l)) (Finset.mem_univ r)).trans hx
  rw [row_count] at hr
  exact Nat.cast_le.mp hr

theorem count_le (y : Vec Ideal S1x32x128 .f32) (hf : ¬ failed (F := Ideal) y p) :
    (Finset.univ.filter fun i => y (ix3 0 r 0) < rowOf p r i).card ≤ 31 := by
  have ht : column (F := Ideal) (got rCol1 y) (ix2 r 0) = y (ix3 0 r 0) := (column_apply _ r).trans (col1_apply y r)
  rw [← ht]
  exact count_of_not_bad _ hf

/-- The slow search's threshold is what is left of the row's maximum after 31 rounds. -/
theorem slow_row : thrSlow (F := Ideal) p (ix3 0 r 0) = Finset.univ.sup (Rank.strike^[31] (rowOf p r)) := by
  unfold thrSlow
  rw [slow_apply]
  refine congrArg _ ((dropped_apply _ r 31).trans (congrArg _ (funext fun i => plain_apply p r i)))

/-- The threshold kept separates the 32 largest entries of a row. -/
theorem separates (h : Rank.Ranked (rowOf p r) σ) (hs : Rank.Strict (rowOf p r) σ 32) :
    Rank.Separates (rowOf p r) σ 32 (recheck (F := Ideal) (thr0 p) p (ix3 0 r 0)) := by
  unfold recheck
  by_cases hf : failed (F := Ideal) (thr0 p) p
  · rw [if_pos hf, slow_row]
    exact h.separates_struck hs 31 32 rfl rfl
  · rw [if_neg hf]
    exact h.separates_of_count hs 31 32 rfl rfl (quick_le h) (count_le _ hf)

/-- The codes of a row: its 32 largest entries where they are positive, and zero elsewhere. -/
theorem codes_row (h : Rank.Ranked (rowOf p r) σ) (hs : Rank.Strict (rowOf p r) σ 32) (k : Fin 6144) :
    codes (F := Ideal) (recheck (thr0 p) p) p (ix3 0 r (σ k)) = if (k : ℕ) < 32 then max (rowOf p r (σ k)) 0 else 0 := by
  have e : codes (F := Ideal) (recheck (thr0 p) p) p (ix3 0 r (σ k))
      = if recheck (F := Ideal) (thr0 p) p (ix3 0 r 0) ≤ rowOf p r (σ k) then max (rowOf p r (σ k)) 0 else 0 := codes_apply _ p r (σ k)
  rw [e]
  rcases lt_or_ge 0 (rowOf p r (σ k)) with h0 | h0
  · exact if_congr (separates h hs k h0) rfl rfl
  · rw [max_eq_right h0, ite_self, ite_self]

end Cert.KernelIdeal.Prf
-- ==== Proof.KerVals.lean ====
module

public import proofs.«01_k».proof.Proof.Ker

@[expose] public section

set_option maxRecDepth 16384

noncomputable section

namespace Cert.KernelIdeal.Prf

open Idealize.ShloMosaic Idealize.ShloMosaic.TcCoe
open Cert.KernelIdeal Cert.KernelIdeal.Gen

/-! # The reconstruction and the loss of a stack, entry by entry -/

theorem part_apply (u : FVec Ideal S1x32x6144 .f32) (w : FVec Ideal S1x192x6144 .f32) (r : Fin 32) (e : Fin 192) :
    k0_pay3 (F := Ideal) u w (ix2 r e) = ∑ i : Fin 6144, u (ix3 0 r i) * w (ix3 0 e i) := by
  pointwise [k0_pay3]

theorem part_stored (u : FVec Ideal S1x32x6144 .f32) (w : FVec Ideal S1x192x6144 .f32) (r : Fin 32) (e : Fin 192) :
    k0_pay4 (F := Ideal) u w (ix3 0 r e) = k0_pay3 (F := Ideal) u w (ix2 r e) := by
  pointwise [k0_pay4]

theorem rec_flat (u : FVec Ideal S1x32x6144 .f32) (w : FVec Ideal S1x192x6144 .f32) (p0 p1 p2 : FVec Ideal S1x32x192 .f32) (bd : FVec Ideal S1x1x768 .f32) (r : Fin 32) (d : Fin 768) :
    k0_pay6 (F := Ideal) u w p0 p1 p2 bd (ix3 0 r d) = k0_pay5 (F := Ideal) u w p0 p1 p2 bd (ix2 r d) := by
  pointwise [k0_pay6]

/-- The four column blocks laid side by side, and the biases. -/
theorem rec_apply (u : FVec Ideal S1x32x6144 .f32) (w : ℕ → FVec Ideal S1x192x6144 .f32) (bd : FVec Ideal S1x1x768 .f32) (r : Fin 32)
    (k : ℕ) (hk : k < 4) (e : Fin 192) :
    k0_pay5 (F := Ideal) u (w 3) (k0_pay4 (F := Ideal) u (w 0)) (k0_pay4 (F := Ideal) u (w 1)) (k0_pay4 (F := Ideal) u (w 2)) bd (ix2 r ⟨192 * k + e.val, by omega⟩)
      = (∑ i : Fin 6144, u (ix3 0 r i) * w k (ix3 0 e i)) + bd (ix3 0 0 ⟨192 * k + e.val, by omega⟩) := by
  have h : ∀ (p0 p1 p2 : FVec Ideal S1x32x192 .f32) (d : Fin 768), k0_pay5 (F := Ideal) u (w 3) p0 p1 p2 bd (ix2 r d)
      = (if h : d.val < 192 then p0 (ix3 0 r ⟨d.val, h⟩) else if h : d.val - 192 < 192 then p1 (ix3 0 r ⟨d.val - 192, h⟩)
          else if h : d.val - 192 - 192 < 192 then p2 (ix3 0 r ⟨d.val - 192 - 192, h⟩)
          else k0_pay3 (F := Ideal) u (w 3) (ix2 r ⟨d.val - 192 - 192 - 192, by omega⟩)) + bd (ix3 0 0 d) := by
    intro p0 p1 p2 d
    pointwise [k0_pay5]
  rw [h, ← part_apply]
  refine congrArg (· + bd (ix3 0 0 ⟨192 * k + e.val, by omega⟩)) ?_
  have at_eq : ∀ (w : FVec Ideal S1x192x6144 .f32) (e' : Fin 192), e'.val = e.val → k0_pay3 (F := Ideal) u w (ix2 r e') = k0_pay3 (F := Ideal) u w (ix2 r e) :=
    fun w e' h => by rw [Fin.ext h]
  have := e.2
  interval_cases k
  · rw [dif_pos (by change 192 * 0 + e.val < _; omega), part_stored]; exact at_eq _ _ (by change 192 * 0 + e.val = _; omega)
  · rw [dif_neg (by change ¬ 192 * 1 + e.val < _; omega), dif_pos (by change 192 * 1 + e.val - _ < _; omega), part_stored]
    exact at_eq _ _ (by change 192 * 1 + e.val - _ = _; omega)
  · rw [dif_neg (by change ¬ 192 * 2 + e.val < _; omega), dif_neg (by change ¬ 192 * 2 + e.val - _ < _; omega),
      dif_pos (by change 192 * 2 + e.val - _ - _ < _; omega), part_stored]
    exact at_eq _ _ (by change 192 * 2 + e.val - _ - _ = _; omega)
  · rw [dif_neg (by change ¬ 192 * 3 + e.val < _; omega), dif_neg (by change ¬ 192 * 3 + e.val - _ < _; omega),
      dif_neg (by change ¬ 192 * 3 + e.val - _ - _ < _; omega)]
    exact at_eq _ _ (by change 192 * 3 + e.val - _ - _ - _ = _; omega)

theorem loss_flat (u : FVec Ideal S1x32x6144 .f32) (w : FVec Ideal S1x192x6144 .f32) (p0 p1 p2 : FVec Ideal S1x32x192 .f32) (bd : FVec Ideal S1x1x768 .f32) (x : FVec Ideal S1x32x768 .f32) :
    k0_pay7 (F := Ideal) u w p0 p1 p2 bd x = ∑ r : Fin 32, ∑ d : Fin 768, (k0_pay5 (F := Ideal) u w p0 p1 p2 bd (ix2 r d) - x (ix3 0 r d)) * (k0_pay5 (F := Ideal) u w p0 p1 p2 bd (ix2 r d) - x (ix3 0 r d)) := by
  pointwise [k0_pay7]

end Cert.KernelIdeal.Prf
-- ==== Proof.RefVals.lean ====
module

public import proofs.«01_k».proof.Proof.RefCodes

@[expose] public section

set_option maxRecDepth 16384

noncomputable section

namespace Cert.ReferenceIdeal.Prf

open Idealize.ShloMosaic Idealize.ShloMosaic.TcCoe
open Cert.ReferenceIdeal Cert.ReferenceIdeal.Gen Cert.ReferenceIdeal.Read

/-! # The reference's results, entry by entry -/

variable (x0 : Vec Ideal S32x12x768 .f32) (x1 : Vec Ideal S12x768 .f32) (x2 : Vec Ideal S12x6144x768 .f32) (x3 : Vec Ideal S12x6144 .f32) (x4 : Vec Ideal S12x768x6144 .f32)

/-- The row of batch entry `r` and stack `b`. -/
def rowAt (r : Fin 32) (b : Fin 12) : Fin 384 := ⟨r.val * 12 + b.val, by omega⟩

theorem row_apply (r : Fin 32) (b : Fin 12) (i : Fin 6144) :
    row x0 x1 x2 x3 (rowAt r b) i = (∑ k : Fin 768, x2 (ix3 b i k) * (x0 (ix3 r b k) - x1 (ix2 b k))) + x3 (ix2 b i) := by
  have e : row x0 x1 x2 x3 (rowAt r b) i = val_main_v7 (F := Ideal) x0 x1 x2 x3 (ix3 r b i) := by
    unfold row rowAt
    pointwise [val_main_v8]
  rw [e]
  pointwise [val_main_v7, val_main_v6, val_main_v5, val_main_v4, val_main_v3, val_main_v2, val_main_v1, val_main_v0]

theorem u_apply (r : Fin 32) (b : Fin 12) (i : Fin 6144) :
    val_main_v28 (F := Ideal) x0 x1 x2 x3 (ix3 r b i) = val_main_v27 (F := Ideal) x0 x1 x2 x3 (ix2 (rowAt r b) i) := by
  unfold rowAt
  pointwise [val_main_v28]

theorem xhat_apply (r : Fin 32) (b : Fin 12) (d : Fin 768) :
    val_main_v33 (F := Ideal) x0 x1 x2 x3 x4 (ix3 r b d) = (∑ i : Fin 6144, x4 (ix3 b d i) * val_main_v28 (F := Ideal) x0 x1 x2 x3 (ix3 r b i)) + x1 (ix2 b d) := by
  pointwise [val_main_v33, val_main_v32, val_main_v31, val_main_v30, val_main_v29]

theorem loss_apply (i : S_.Idx) :
    val_main_v38 (F := Ideal) x0 x1 x2 x3 x4 i = Ideal.div (∑ r : Fin 32, ∑ b : Fin 12, ∑ d : Fin 768,
      (val_main_v33 (F := Ideal) x0 x1 x2 x3 x4 (ix3 r b d) - x0 (ix3 r b d)) * (val_main_v33 (F := Ideal) x0 x1 x2 x3 x4 (ix3 r b d) - x0 (ix3 r b d)))
      (Ideal.ofBits .f32 0x43C00000#32) := by
  pointwise [val_main_v38, val_main_v37, val_main_v36, val_main_v35, val_main_v34, val_main_cst_3, val_main_cst_4, val_main_cst_5]

end Cert.ReferenceIdeal.Prf
-- ==== Proof.Stack.lean ====
module

public import proofs.«01_k».proof.Proof.Inputs
public import proofs.«01_k».proof.Proof.KerCodes
public import proofs.«01_k».proof.Proof.KerVals
public import proofs.«01_k».proof.Proof.RefVals

@[expose] public section

set_option maxRecDepth 16384

noncomputable section

namespace Cert.KernelIdeal.Prf

open Idealize.ShloMosaic Idealize.ShloMosaic.TcCoe
open Cert.KernelIdeal Cert.KernelIdeal.Gen
open Cert.ReferenceIdeal.Read (val_main_v27 val_main_v28 val_main_v33)
open Cert.ReferenceIdeal.Prf (row rowAt)
open Cert.Rank (order order_ranked Strict)

/-! # A stack's results are the reference's -/

variable (m : (ℓ : Loc nD τ sig) → Buf (Elt Ideal) ℓ) (c : Dev nD)

theorem stack_x (X : Vec Ideal S12x32x768 .f32) (b : Fin 12) (r : Fin 32) (k : Fin 768) :
    got (F := Ideal) (e := .f32) (rX b b.2) X (ix3 0 r k) = X (ix3 b r k) := by
  refine congrArg X (funext fun a => ?_)
  match a with
  | ⟨0, _⟩ => rfl
  | ⟨1, _⟩ => exact Fin.ext ((Nat.zero_add _).trans (Nat.one_mul _))
  | ⟨2, _⟩ => exact Fin.ext ((Nat.zero_add _).trans (Nat.one_mul _))

theorem stack_bd (X : Vec Ideal S12x1x768 .f32) (b : Fin 12) (k : Fin 768) :
    got (F := Ideal) (e := .f32) (rBd b b.2) X (ix3 0 0 k) = X (ix3 b 0 k) := by
  refine congrArg X (funext fun a => ?_)
  match a with
  | ⟨0, _⟩ => rfl
  | ⟨1, _⟩ => rfl
  | ⟨2, _⟩ => exact Fin.ext ((Nat.zero_add _).trans (Nat.one_mul _))

theorem stack_be (X : Vec Ideal S12x1x6144 .f32) (b : Fin 12) (i : Fin 6144) :
    got (F := Ideal) (e := .f32) (rBe b b.2) X (ix3 0 0 i) = X (ix3 b 0 i) := by
  refine congrArg X (funext fun a => ?_)
  match a with
  | ⟨0, _⟩ => rfl
  | ⟨1, _⟩ => rfl
  | ⟨2, _⟩ => exact Fin.ext ((Nat.zero_add _).trans (Nat.one_mul _))

/-- The rows of pre-activations; -/
abbrev rowM (r : Fin 384) : Fin 6144 → EReal := row (argX m c) (argBd m c) (argW m c) (argBe m c) r
/-- the codes, -/
abbrev refU : Vec Ideal S32x12x6144 .f32 := val_main_v28 (F := Ideal) (argX m c) (argBd m c) (argW m c) (argBe m c)
/-- and the reconstruction the reference computes of the arguments. -/
abbrev refX : Vec Ideal S32x12x768 .f32 := val_main_v33 (F := Ideal) (argX m c) (argBd m c) (argW m c) (argBe m c) (argWd m c)

theorem pre_row (b : Fin 12) (r : Fin 32) : rowOf (preOf c (wAll m c) (xAll m c) (bdAll m c) (beAll m c) b) r = rowM m c (rowAt r b) := by
  funext i
  unfold rowOf preOf
  rw [pre_apply, stack_be, beAll_apply]
  refine Eq.trans ?_ (Cert.ReferenceIdeal.Prf.row_apply _ _ _ _ r b i).symm
  refine congrArg (· + argBe m c (ix2 b i)) (Finset.sum_congr rfl fun k _ => ?_)
  rw [stack_x, stack_bd, slab_apply, xAll_apply, bdAll_apply, mul_comm]

variable (hs : ∀ r : Fin 384, Strict (rowM m c r) (order (rowM m c r)) 32)

include hs in
theorem code_eq (b : Fin 12) (r : Fin 32) (i : Fin 6144) :
    codeOf c (wAll m c) (xAll m c) (bdAll m c) (beAll m c) b (ix3 0 r i) = refU m c (ix3 r b i) := by
  obtain ⟨k, rfl⟩ := (order_ranked (rowM m c (rowAt r b))).bij.2 i
  have hp := pre_row m c b r
  refine (codes_row (p := preOf c (wAll m c) (xAll m c) (bdAll m c) (beAll m c) b) (r := r) (by rw [hp]; exact order_ranked _)
    (by rw [hp]; exact hs _) k).trans ?_
  rw [hp]
  exact ((Cert.ReferenceIdeal.Prf.u_apply _ _ _ _ r b _).trans (Cert.ReferenceIdeal.Prf.codes_order _ _ _ _ _ k)).symm

include hs in
theorem rec_eq (b : Fin 12) (r : Fin 32) (d : Fin 768) :
    k0_pay5 (F := Ideal) (codeOf c (wAll m c) (xAll m c) (bdAll m c) (beAll m c) b) (wdBlk m c b 3) (partOf c (wAll m c) (xAll m c) (bdAll m c) (beAll m c) (wdBlk m c) b 0)
        (partOf c (wAll m c) (xAll m c) (bdAll m c) (beAll m c) (wdBlk m c) b 1) (partOf c (wAll m c) (xAll m c) (bdAll m c) (beAll m c) (wdBlk m c) b 2)
        (got (rBd b b.2) (bdAll m c)) (ix2 r d) = refX m c (ix3 r b d) := by
  obtain ⟨k, hk, e, rfl⟩ : ∃ (k : ℕ) (hk : k < 4) (e : Fin 192), d = ⟨192 * k + e.val, by omega⟩ :=
    ⟨d.val / 192, by omega, ⟨d.val % 192, Nat.mod_lt _ (by decide)⟩, Fin.ext (Nat.div_add_mod _ _).symm⟩
  refine (rec_apply _ (wdBlk m c b) _ r k hk e).trans ?_
  rw [stack_bd, bdAll_apply]
  refine Eq.trans ?_ (Cert.ReferenceIdeal.Prf.xhat_apply _ _ _ _ _ r b _).symm
  refine congrArg (· + argBd m c (ix2 b ⟨192 * k + e.val, by omega⟩)) (Finset.sum_congr rfl fun i _ => ?_)
  rw [code_eq m c hs, wdBlk_apply m c b k hk, mul_comm]

include hs in
theorem rec_stored (b : Fin 12) (r : Fin 32) (d : Fin 768) :
    recOf c (wAll m c) (xAll m c) (bdAll m c) (beAll m c) (wdBlk m c) b (ix3 0 r d) = refX m c (ix3 r b d) :=
  (rec_flat _ _ _ _ _ _ r d).trans (rec_eq m c hs b r d)

include hs in
theorem loss_eq (b : Fin 12) (y : S1x1x1.Idx) :
    lossOf c (wAll m c) (xAll m c) (bdAll m c) (beAll m c) (wdBlk m c) b y
      = ∑ r : Fin 32, ∑ d : Fin 768, (refX m c (ix3 r b d) - argX m c (ix3 r b d)) * (refX m c (ix3 r b d) - argX m c (ix3 r b d)) := by
  refine (loss_flat _ _ _ _ _ _ _).trans (Finset.sum_congr rfl fun r _ => Finset.sum_congr rfl fun d _ => ?_)
  rw [rec_eq m c hs, stack_x, xAll_apply]

end Cert.KernelIdeal.Prf
-- ==== Proof.Blocks.lean ====
module

public import proofs.«01_k».proof.Proof.Frame
public import Idealize.ShloMosaic.Lib.Pointwise
public import Idealize.ShloMosaic.Lib.Pipeline.ValueKit

@[expose] public section

set_option maxRecDepth 16384

noncomputable section

namespace Cert.KernelIdeal.Prf

open Idealize.ShloMosaic Idealize.ShloMosaic.TcCoe
open Cert.KernelIdeal Cert.KernelIdeal.Gen

/-! # The blocks of the output arrays

Which block each grid point writes back, and that together they make up the arrays. -/

/-- The blocks the output windows write back. -/
theorem out_blocks : ∀ t : Fin cfg0.N, 4 ≤ t.val → win0_4.index t = ![t.val / 4 - 1, 0, t.val % 4]
    ∧ win0_5.index t = ![t.val / 4 - 1, 0, 0] ∧ win0_6.index t = ![t.val / 4 - 1, 0, 0] :=
  (by decide +kernel : ∀ t : Fin grid0.N, _)

/-- The points they are written back at. -/
theorem back_4 : ∀ t : Fin cfg0.N, 4 ≤ t.val → (cfg0.win 4).flushF t = true := by decide +kernel
theorem back_5 : ∀ t : Fin cfg0.N, 4 ≤ t.val → t.val % 4 = 3 → (cfg0.win 5).flushF t = true := by decide +kernel
theorem back_6 : ∀ t : Fin cfg0.N, 4 ≤ t.val → t.val % 4 = 3 → (cfg0.win 6).flushF t = true := by decide +kernel

/-- Every entry of an output array lies in a block that is written back. -/
theorem cover_4 (i : S12x32x6144.Idx) : ∃ t : Fin cfg0.N, (cfg0.win 4).flush t = true ∧ i ∈ ((cfg0.win 4).blk t).view.set := by
  idx_vars i
  have := i0.2; have := i1.2; have := i2.2
  have ht : (pointAt (4 * (i0.val + 1) + i2.val / 1536)).val = 4 * (i0.val + 1) + i2.val / 1536 := Nat.mod_eq_of_lt (by omega)
  have hb := (out_blocks (pointAt (4 * (i0.val + 1) + i2.val / 1536)) (by omega)).1
  rw [ht, show (4 * (i0.val + 1) + i2.val / 1536) / 4 - 1 = i0.val by omega, show (4 * (i0.val + 1) + i2.val / 1536) % 4 = i2.val / 1536 by omega] at hb
  refine ⟨_, ((cfg0.win 4).flush_eq_flushF _).trans (back_4 (pointAt (4 * (i0.val + 1) + i2.val / 1536)) (by omega)), ?_⟩
  mem_blk [hb]
  change (i0.val ≤ i0.val ∧ i0.val < i0.val + 1) ∧ (0 ≤ i1.val ∧ i1.val < 32) ∧ i2.val / 1536 * 1536 ≤ i2.val ∧ i2.val < i2.val / 1536 * 1536 + 1536
  omega

theorem cover_5 (i : S12x32x768.Idx) : ∃ t : Fin cfg0.N, (cfg0.win 5).flush t = true ∧ i ∈ ((cfg0.win 5).blk t).view.set := by
  idx_vars i
  have := i0.2; have := i1.2; have := i2.2
  have ht : (pointAt (4 * (i0.val + 1) + 3)).val = 4 * (i0.val + 1) + 3 := Nat.mod_eq_of_lt (by omega)
  have hb := (out_blocks (pointAt (4 * (i0.val + 1) + 3)) (by omega)).2.1
  rw [ht, show (4 * (i0.val + 1) + 3) / 4 - 1 = i0.val by omega] at hb
  refine ⟨_, ((cfg0.win 5).flush_eq_flushF _).trans (back_5 (pointAt (4 * (i0.val + 1) + 3)) (by omega) (by omega)), ?_⟩
  mem_blk [hb]
  change (i0.val ≤ i0.val ∧ i0.val < i0.val + 1) ∧ (0 ≤ i1.val ∧ i1.val < 32) ∧ 0 ≤ i2.val ∧ i2.val < 768
  omega

theorem cover_6 (i : S12x1x1.Idx) : ∃ t : Fin cfg0.N, (cfg0.win 6).flush t = true ∧ i ∈ ((cfg0.win 6).blk t).view.set := by
  idx_vars i
  have := i0.2; have := i1.2; have := i2.2
  have ht : (pointAt (4 * (i0.val + 1) + 3)).val = 4 * (i0.val + 1) + 3 := Nat.mod_eq_of_lt (by omega)
  have hb := (out_blocks (pointAt (4 * (i0.val + 1) + 3)) (by omega)).2.2
  rw [ht, show (4 * (i0.val + 1) + 3) / 4 - 1 = i0.val by omega] at hb
  refine ⟨_, ((cfg0.win 6).flush_eq_flushF _).trans (back_6 (pointAt (4 * (i0.val + 1) + 3)) (by omega) (by omega)), ?_⟩
  mem_blk [hb]
  change (i0.val ≤ i0.val ∧ i0.val < i0.val + 1) ∧ (0 ≤ i1.val ∧ i1.val < 1) ∧ 0 ≤ i2.val ∧ i2.val < 1
  omega

end Cert.KernelIdeal.Prf
-- ==== Proof.Arrays.lean ====
module

public import proofs.«01_k».proof.Proof.Stack
public import proofs.«01_k».proof.Proof.Blocks

@[expose] public section

set_option maxRecDepth 16384

noncomputable section

namespace Cert.KernelIdeal.Prf

open Idealize.ShloMosaic Idealize.ShloMosaic.TcCoe
open Cert.KernelIdeal Cert.KernelIdeal.Gen

/-! # The kernel's arrays after the run -/

variable (m : (ℓ : Loc nD τ sig) → Buf (Elt Ideal) ℓ) (c : Dev nD)

/-- A quarter of a stack's codes. -/
theorem quarter_apply (b : Fin 12) (k : ℕ) (hk : k < 4) (r : Fin 32) (e : Fin 1536) :
    quarterOf c (wAll m c) (xAll m c) (bdAll m c) (beAll m c) b k hk (ix3 0 r e)
      = codeOf c (wAll m c) (xAll m c) (bdAll m c) (beAll m c) b (ix3 0 r ⟨1536 * k + e.val, by omega⟩) := by
  have h : ∀ v : FVec Ideal S1x32x1536 .f32, k0_pay2 (F := Ideal) v (ix3 0 r e) = v (ix3 0 r e) := by
    intro v
    pointwise [k0_pay2]
  refine (h _).trans (congrArg (codeOf c (wAll m c) (xAll m c) (bdAll m c) (beAll m c) b) (funext fun a => ?_))
  match a with
  | ⟨0, _⟩ => rfl
  | ⟨1, _⟩ => exact Fin.ext ((Nat.zero_add _).trans (Nat.one_mul _))
  | ⟨2, _⟩ => exact Fin.ext (congrArg (1536 * k + ·) (Nat.one_mul _))

theorem stackAt_val (t : Fin cfg0.N) : (stackAt t).val = t.val / 4 - 1 := rfl

/-- An array over tokens, stacks and entries as one over stacks, tokens and entries. -/
def swapU (v : Vec Ideal S32x12x6144 .f32) : Vec Ideal S12x32x6144 .f32 := fun i => v (ix3 (i 1) (i 0) (i 2))
def swapX (v : Vec Ideal S32x12x768 .f32) : Vec Ideal S12x32x768 .f32 := fun i => v (ix3 (i 1) (i 0) (i 2))
theorem swapU_at (v : Vec Ideal S32x12x6144 .f32) (b : Fin 12) (r : Fin 32) (i : Fin 6144) : swapU v (ix3 b r i) = v (ix3 r b i) := rfl
theorem swapX_at (v : Vec Ideal S32x12x768 .f32) (b : Fin 12) (r : Fin 32) (d : Fin 768) : swapX v (ix3 b r d) = v (ix3 r b d) := rfl

/-- The codes' array, -/
def uArr : Vec Ideal S12x32x6144 .f32 := swapU (refU m c)
/-- the reconstruction's -/
def xArr : Vec Ideal S12x32x768 .f32 := swapX (refX m c)
/-- and the losses'. -/
def lArr : Vec Ideal S12x1x1 .f32 := fun i => ∑ r : Fin 32, ∑ d : Fin 768,
  (refX m c (ix3 r (i 0) d) - argX m c (ix3 r (i 0) d)) * (refX m c (ix3 r (i 0) d) - argX m c (ix3 r (i 0) d))

variable (hs : ∀ r : Fin 384, Cert.Rank.Strict (rowM m c r) (Cert.Rank.order (rowM m c r)) 32)

theorem uArr_at (b : Fin 12) (r : Fin 32) (i : Fin 6144) : uArr m c (ix3 b r i) = refU m c (ix3 r b i) := swapU_at _ b r i
theorem xArr_at (b : Fin 12) (r : Fin 32) (d : Fin 768) : xArr m c (ix3 b r d) = refX m c (ix3 r b d) := swapX_at _ b r d

/-- What a point leaves in the output windows. -/
theorem after_u (t : Fin cfg0.N) : (dats m 0 c).after 4 t = uOut m c t := by dsimp only [dats]
theorem after_x (t : Fin cfg0.N) : (dats m 0 c).after 5 t = xOut m c t := by dsimp only [dats]
theorem after_l (t : Fin cfg0.N) : (dats m 0 c).after 6 t = lOut m c t := by dsimp only [dats]

/-- An entry of a block, as an entry of its array. -/
theorem emb_u (t : Fin cfg0.N) (ht : 4 ≤ t.val) (r : Fin 32) (e : Fin 1536) :
    (win0_4.blk t).view.emb (ix3 0 r e) = (ix3 (stackAt t) r ⟨1536 * (t.val % 4) + e.val, by omega⟩ : S12x32x6144.Idx) := by
  have hb := (out_blocks t ht).1
  have := stackAt_val t
  blk_ext [hb, this]
theorem emb_x (t : Fin cfg0.N) (ht : 4 ≤ t.val) (r : Fin 32) (d : Fin 768) :
    (win0_5.blk t).view.emb (ix3 0 r d) = (ix3 (stackAt t) r d : S12x32x768.Idx) := by
  have hb := (out_blocks t ht).2.1
  have := stackAt_val t
  blk_ext [hb, this]
theorem emb_l (t : Fin cfg0.N) (ht : 4 ≤ t.val) :
    (win0_6.blk t).view.emb (ix3 0 0 0) = (ix3 (stackAt t) 0 0 : S12x1x1.Idx) := by
  have hb := (out_blocks t ht).2.2
  have := stackAt_val t
  blk_ext [hb, this]

include hs in
/-- What a point leaves is its block of the array. -/
theorem block_u (t : Fin cfg0.N) (ht : 4 ≤ t.val) (y : S1x32x1536.Idx) : uOut m c t y = uArr m c ((win0_4.blk t).view.emb y) := by
  idx_vars y
  obtain rfl : y0 = 0 := Subsingleton.elim _ _
  rw [emb_u t ht, uArr_at]
  unfold uOut
  exact (quarter_apply m c (stackAt t) (t.val % 4) (Nat.mod_lt _ (by decide)) y1 y2).trans (code_eq m c hs _ _ _)

include hs in
theorem block_x (t : Fin cfg0.N) (ht : 4 ≤ t.val) (y : S1x32x768.Idx) : xOut m c t y = xArr m c ((win0_5.blk t).view.emb y) := by
  idx_vars y
  obtain rfl : y0 = 0 := Subsingleton.elim _ _
  rw [emb_x t ht, xArr_at]
  unfold xOut
  exact rec_stored m c hs (stackAt t) y1 y2

include hs in
theorem block_l (t : Fin cfg0.N) (ht : 4 ≤ t.val) (y : S1x1x1.Idx) : lOut m c t y = lArr m c ((win0_6.blk t).view.emb y) := by
  idx_vars y
  obtain rfl : y0 = 0 := Subsingleton.elim _ _
  obtain rfl : y1 = 0 := Subsingleton.elim _ _
  obtain rfl : y2 = 0 := Subsingleton.elim _ _
  rw [emb_l t ht]
  unfold lOut
  exact loss_eq m c hs (stackAt t) _

/-- Only points of the decoding part write back. -/
theorem late_4 (t : Fin cfg0.N) (hf : (cfg0.win 4).flush t = true) : 4 ≤ t.val := by
  by_contra hn
  rw [((cfg0.win 4).flush_eq_flushF t).trans (quiet_4 t (by omega))] at hf
  cases hf
/-- The array whose blocks the points leave is what the run leaves. -/
theorem arr_u (G : Vec Ideal S12x32x6144 .f32) (h : ∀ t : Fin cfg0.N, 4 ≤ t.val → ∀ y : S1x32x1536.Idx, uOut m c t y = G ((win0_4.blk t).view.emb y)) :
    (dats m 0 c).arrAt 4 cfg0.N = G := by
  refine (dats m 0 c).arrAt_eq_of_emb 4 _ (fun t hf y => ?_) cover_4
  rw [after_u]
  have h := h t (late_4 t hf)
  revert h
  generalize uOut m c t = v
  intro h
  exact h y

theorem late_5 (t : Fin cfg0.N) (hf : (cfg0.win 5).flush t = true) : 4 ≤ t.val := by
  by_contra hn
  rw [((cfg0.win 5).flush_eq_flushF t).trans (quiet_5 t (by omega))] at hf
  cases hf
theorem arr_x (G : Vec Ideal S12x32x768 .f32) (h : ∀ t : Fin cfg0.N, 4 ≤ t.val → ∀ y : S1x32x768.Idx, xOut m c t y = G ((win0_5.blk t).view.emb y)) :
    (dats m 0 c).arrAt 5 cfg0.N = G := by
  refine (dats m 0 c).arrAt_eq_of_emb 5 _ (fun t hf y => ?_) cover_5
  rw [after_x]
  have h := h t (late_5 t hf)
  revert h
  generalize xOut m c t = v
  intro h
  exact h y

theorem late_6 (t : Fin cfg0.N) (hf : (cfg0.win 6).flush t = true) : 4 ≤ t.val := by
  by_contra hn
  rw [((cfg0.win 6).flush_eq_flushF t).trans (quiet_6 t (by omega))] at hf
  cases hf
theorem arr_l (G : Vec Ideal S12x1x1 .f32) (h : ∀ t : Fin cfg0.N, 4 ≤ t.val → ∀ y : S1x1x1.Idx, lOut m c t y = G ((win0_6.blk t).view.emb y)) :
    (dats m 0 c).arrAt 6 cfg0.N = G := by
  refine (dats m 0 c).arrAt_eq_of_emb 6 _ (fun t hf y => ?_) cover_6
  rw [after_l]
  have h := h t (late_6 t hf)
  revert h
  generalize lOut m c t = v
  intro h
  exact h y

include hs in
/-- The arrays the run leaves. -/
theorem final_u : (dats m 0 c).arrAt 4 cfg0.N = uArr m c := arr_u m c (uArr m c) (block_u m c hs)

include hs in
theorem final_x : (dats m 0 c).arrAt 5 cfg0.N = xArr m c := arr_x m c (xArr m c) (block_x m c hs)

include hs in
theorem final_l : (dats m 0 c).arrAt 6 cfg0.N = lArr m c := arr_l m c (lArr m c) (block_l m c hs)

end Cert.KernelIdeal.Prf
-- ==== Proof.Outputs.lean ====
module

public import proofs.«01_k».proof.Proof.Arrays
public import proofs.«01_k».proof.Proof.Ties

@[expose] public section

set_option maxRecDepth 16384

noncomputable section

namespace Cert.KernelIdeal.Prf

open Idealize.ShloMosaic Idealize.ShloMosaic.TcCoe
open Cert.KernelIdeal Cert.KernelIdeal.Gen

/-! # The kernel's results

After the grid the kernel sums the losses, divides by the number of tokens and exchanges the first two axes of its arrays. -/

variable (m : (ℓ : Loc nD τ sig) → Buf (Elt Ideal) ℓ) (c : Dev nD)

variable (hs : ∀ r : Fin 384, Cert.Rank.Strict (rowM m c r) (Cert.Rank.order (rowM m c r)) 32)

/-- A buffer after the operations that follow the grid. -/
abbrev outOf (b : Ref sig .tc) := Pipeline.afterTail₀ cfgs (dats m) 0 (V0 m) [hostOps1] c b

include hs in
theorem tail_u : outOf m c main_v0_2 = transpose S32x12x6144 [1, 0, 2] (uArr m c) transposes_S12x32x6144_S32x12x6144_1_0_2 := by
  unfold outOf Pipeline.afterTail₀
  rw [show List.flatten [hostOps1 (F := Ideal)] = hostOps1 from List.append_nil _]
  unfold hostOps1
  after_results
  rw [← final_u m c hs]
  exact congrArg (fun v => transpose S32x12x6144 [1, 0, 2] v transposes_S12x32x6144_S32x12x6144_1_0_2)
    (Pipeline.withArrays_arr spec0 (by decide) c (V0 m c) (fun w => (dats m 0 c).arrAt w cfg0.N) 4)

include hs in
theorem tail_x : outOf m c main_v0_1 = transpose S32x12x768 [1, 0, 2] (xArr m c) transposes_S12x32x768_S32x12x768_1_0_2 := by
  unfold outOf Pipeline.afterTail₀
  rw [show List.flatten [hostOps1 (F := Ideal)] = hostOps1 from List.append_nil _]
  unfold hostOps1
  after_results
  rw [← final_x m c hs]
  exact congrArg (fun v => transpose S32x12x768 [1, 0, 2] v transposes_S12x32x768_S32x12x768_1_0_2)
    (Pipeline.withArrays_arr spec0 (by decide) c (V0 m c) (fun w => (dats m 0 c).arrAt w cfg0.N) 5)

/-- The mean the kernel takes of the stacks' losses. -/
def meanOf (l : Vec Ideal S12x1x1 .f32) : Vec Ideal S_ .f32 :=
  Host.divf (F := Ideal) (Host.reduceAdd (F := Ideal) l (constant S_ .f32 0x00000000#32) reducesTo_S12x1x1_S_d0_1_2 h_S_) (constant S_ .f32 0x43C00000#32)

include hs in
theorem tail_l : outOf m c main_v0_0 = meanOf (lArr m c) := by
  unfold outOf Pipeline.afterTail₀
  rw [show List.flatten [hostOps1 (F := Ideal)] = hostOps1 from List.append_nil _]
  unfold hostOps1
  after_results
  rw [← final_l m c hs]
  exact congrArg meanOf (Pipeline.withArrays_arr spec0 (by decide) c (V0 m c) (fun w => (dats m 0 c).arrAt w cfg0.N) 6)

/-- Exchanging the axes back gives the reference's codes, -/
theorem back_u (v : Vec Ideal S32x12x6144 .f32) : transpose (α := EReal) S32x12x6144 [1, 0, 2] (swapU v) transposes_S12x32x6144_S32x12x6144_1_0_2 = v := by
  funext i
  idx_vars i
  pointwise [swapU]

/-- and its reconstruction; -/
theorem back_x (v : Vec Ideal S32x12x768 .f32) : transpose (α := EReal) S32x12x768 [1, 0, 2] (swapX v) transposes_S12x32x768_S32x12x768_1_0_2 = v := by
  funext i
  idx_vars i
  pointwise [swapX]

/-- and the mean is over all stacks' losses. -/
theorem mean_apply (l : Vec Ideal S12x1x1 .f32) (i : S_.Idx) : meanOf l i = Ideal.div (∑ b : Fin 12, l (ix3 b 0 0)) (Ideal.ofBits .f32 0x43C00000#32) := by
  pointwise [meanOf]
  simp only [Fin.sum_univ_one]

/-- An entry of the losses' array. -/
theorem lArr_at (b : Fin 12) : lArr m c (ix3 b 0 0) = ∑ r : Fin 32, ∑ d : Fin 768,
    (refX m c (ix3 r b d) - argX m c (ix3 r b d)) * (refX m c (ix3 r b d) - argX m c (ix3 r b d)) := by
  unfold lArr
  rfl

include hs in
/-- The kernel's codes are the reference's, -/
theorem out_u : outOf m c main_v0_2 = refU m c := (tail_u m c hs).trans (back_u (refU m c))

include hs in
/-- its reconstruction is -/
theorem out_x : outOf m c main_v0_1 = refX m c := (tail_x m c hs).trans (back_x (refX m c))

/-- and so is its loss: the stacks' sums, taken in the other order. -/
theorem mean_eq (x x' : Vec Ideal S32x12x768 .f32) (l : Vec Ideal S12x1x1 .f32) (i : S_.Idx)
    (h : ∀ b : Fin 12, l (ix3 b 0 0) = ∑ r : Fin 32, ∑ d : Fin 768, (x (ix3 r b d) - x' (ix3 r b d)) * (x (ix3 r b d) - x' (ix3 r b d))) :
    meanOf l i = Ideal.div (∑ r : Fin 32, ∑ b : Fin 12, ∑ d : Fin 768, (x (ix3 r b d) - x' (ix3 r b d)) * (x (ix3 r b d) - x' (ix3 r b d)))
      (Ideal.ofBits .f32 0x43C00000#32) := by
  rw [mean_apply, Finset.sum_congr rfl fun b _ => h b, Finset.sum_comm]

include hs in
theorem out_l : outOf m c main_v0_0
    = Cert.ReferenceIdeal.Read.val_main_v38 (F := Ideal) (argX m c) (argBd m c) (argW m c) (argBe m c) (argWd m c) := by
  rw [tail_l m c hs]
  funext i
  refine Eq.trans ?_ (Cert.ReferenceIdeal.Prf.loss_apply (argX m c) (argBd m c) (argW m c) (argBe m c) (argWd m c) i).symm
  exact mean_eq (refX m c) (argX m c) (lArr m c) i fun b => lArr_at m c b

end Cert.KernelIdeal.Prf
-- ==== Proof.Value.lean ====
module

public import proofs.«01_k».proof.Defs
public import proofs.«01_k».proof.Proof.Outputs
public import proofs.«01_k».proof.Proof.Gen.ReferenceIdeal.Run

@[expose] public section

set_option maxRecDepth 16384

noncomputable section

namespace Cert.Proof

open Idealize.ShloMosaic Idealize.ShloMosaic.TcCoe
open Idealize.SL.Sem
open Cert.KernelIdeal.Prf (argX argBd argW argBe argWd refU refX outOf)
open Cert.ReferenceIdeal.Read (val_main_v38 val_main_v33 val_main_v28)

/-! # The kernel computes the reference's results -/

section Kernel
open Cert.KernelIdeal Cert.KernelIdeal.Gen

/-- Where no token has a tie, the kernel's three results are the reference's functions of the arguments. -/
theorem run_kernel (m : (ℓ : Loc nD τ sig) → Buf (Elt Ideal) ℓ) (g : Dev nD → PrngReg) (h : Cert.Pre_KernelIdeal_no_ties m) :
    θ_run (defs (F := Ideal)) (onTc (τ := τ) (main (F := Ideal))) ⟨m, fun _ => 0, g⟩ (fun r => ∀ c : Dev nD,
      r.2.mem ((c.tc : Thread nD τ).loc main_v0_0) = val_main_v38 (F := Ideal) (argX m c) (argBd m c) (argW m c) (argBe m c) (argWd m c)
      ∧ r.2.mem ((c.tc : Thread nD τ).loc main_v0_1) = refX m c
      ∧ r.2.mem ((c.tc : Thread nD τ).loc main_v0_2) = refU m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c =>
    have hs := Cert.ReferenceIdeal.Prf.strict_of_pre (argX m c) (argBd m c) (argW m c) (argBe m c) (argWd m c) (h c)
    have out : ∀ b : Ref sig .tc, b ∈ Pipeline.restRefs sig spec0 → r.2.mem ((c.tc : Thread nD τ).loc b) = outOf m c b := fun b hb => (hr.1 c).2 b hb
    ⟨(out main_v0_0 (by decide)).trans (Cert.KernelIdeal.Prf.out_l m c hs), (out main_v0_1 (by decide)).trans (Cert.KernelIdeal.Prf.out_x m c hs),
      (out main_v0_2 (by decide)).trans (Cert.KernelIdeal.Prf.out_u m c hs), Cert.KernelIdeal.Prf.args_kept m hr.1 c⟩)
    (Cert.KernelIdeal.Prf.run_main m g)

end Kernel

/-- The reference leaves the same functions of its own arguments. -/
theorem results_reference (m : (ℓ : Loc Cert.ReferenceIdeal.nD Cert.ReferenceIdeal.τ Cert.ReferenceIdeal.sig) → Buf (Elt Ideal) ℓ)
    (x0 : Dev Cert.ReferenceIdeal.nD → Vec Ideal Cert.ReferenceIdeal.S32x12x768 .f32) (x1 : Dev Cert.ReferenceIdeal.nD → Vec Ideal Cert.ReferenceIdeal.S12x768 .f32)
    (x2 : Dev Cert.ReferenceIdeal.nD → Vec Ideal Cert.ReferenceIdeal.S12x6144x768 .f32) (x3 : Dev Cert.ReferenceIdeal.nD → Vec Ideal Cert.ReferenceIdeal.S12x6144 .f32)
    (x4 : Dev Cert.ReferenceIdeal.nD → Vec Ideal Cert.ReferenceIdeal.S12x768x6144 .f32)
    (hx : ∀ c : Dev Cert.ReferenceIdeal.nD, m ((c.tc : Thread Cert.ReferenceIdeal.nD Cert.ReferenceIdeal.τ).loc Cert.ReferenceIdeal.main_arg0) = x0 c
      ∧ m ((c.tc : Thread Cert.ReferenceIdeal.nD Cert.ReferenceIdeal.τ).loc Cert.ReferenceIdeal.main_arg1) = x1 c
      ∧ m ((c.tc : Thread Cert.ReferenceIdeal.nD Cert.ReferenceIdeal.τ).loc Cert.ReferenceIdeal.main_arg2) = x2 c
      ∧ m ((c.tc : Thread Cert.ReferenceIdeal.nD Cert.ReferenceIdeal.τ).loc Cert.ReferenceIdeal.main_arg3) = x3 c
      ∧ m ((c.tc : Thread Cert.ReferenceIdeal.nD Cert.ReferenceIdeal.τ).loc Cert.ReferenceIdeal.main_arg4) = x4 c)
    (c : Dev Cert.ReferenceIdeal.nD) :
    Cert.ReferenceIdeal.Value.res_main_v38 m c = val_main_v38 (F := Ideal) (x0 c) (x1 c) (x2 c) (x3 c) (x4 c)
      ∧ Cert.ReferenceIdeal.Value.res_main_v33 m c = val_main_v33 (F := Ideal) (x0 c) (x1 c) (x2 c) (x3 c) (x4 c)
      ∧ Cert.ReferenceIdeal.Value.res_main_v28 m c = val_main_v28 (F := Ideal) (x0 c) (x1 c) (x2 c) (x3 c) := by
  obtain ⟨h0, h1, h2, h3, h4⟩ := hx c
  rw [Cert.ReferenceIdeal.Read.val_main_v38_eq, Cert.ReferenceIdeal.Read.val_main_v33_eq, Cert.ReferenceIdeal.Read.val_main_v28_eq, h0, h1, h2, h3, h4]
  exact ⟨rfl, rfl, rfl⟩

/-- From equal arguments without ties the two programs leave equal results. -/
theorem same_results : Cert.algebraic_KernelIdeal_ReferenceIdeal_pre_no_ties := by
  intro m g m' g' hp hx
  refine ⟨fun c => val_main_v38 (F := Ideal) (argX m c) (argBd m c) (argW m c) (argBe m c) (argWd m c), fun c => refX m c, fun c => refU m c,
    run_kernel m g hp, (θ_run Cert.ReferenceIdeal.defs _ _).mono (fun r h c => ?_) (Cert.ReferenceIdeal.Value.run (F := Ideal) m' g')⟩
  obtain ⟨e0, e1, e2⟩ := results_reference m' (argX m) (argBd m) (argW m) (argBe m) (argWd m) hx c
  obtain ⟨h0, h1, h2, h3⟩ := h c
  exact ⟨h0.trans e0, h1.trans e1, h2.trans e2, h3⟩

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import proofs.«01_k».proof.Proof.Ties
public import proofs.«01_k».proof.Proof.Value

@[expose] public section

noncomputable section

namespace Cert.Proof

/-- Everything the certificate claims. A frame that holds of every memory holds of those without ties. -/
theorem claim : Cert.Claim :=
  ⟨Cert.Kernel.Gen.facts, Cert.KernelIdeal.Gen.facts, Cert.ReferenceIdeal.Gen.facts, Cert.Pre_no_ties.Prf.facts,
    frame_kernel, frame_ideal, fun m g _ => frame_ideal m g trivial, frame_reference, fun m g _ => frame_reference m g trivial, trivial, same_results⟩

end Cert.Proof

end
